-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S1024x8 : Shape := ⟨2, ![1024, 8]⟩
abbrev S8x1024x344 : Shape := ⟨3, ![8, 1024, 344]⟩
abbrev S8x344x1024 : Shape := ⟨3, ![8, 344, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_arg8 : FVec F S1024x8 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x8 .f32 := Host.absf main_arg8
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  main_v23

def fn {F : FTy → Type} [FloatOps F] (main_arg0 : FVec F S1x2048x1024 .f32) (main_arg1 : IVec S1x2048 32) (main_arg2 : FVec F S1024 .f32) (main_arg3 : FVec F S1024 .f32) (main_arg4 : FVec F S1024x1024 .f32) (main_arg5 : FVec F S1024x1024 .f32) (main_arg6 : FVec F S1024x1024 .f32) (main_arg7 : FVec F S1024x1024 .f32) (main_arg8 : FVec F S1024x8 .f32) (main_arg9 : FVec F S8x1024x344 .f32) (main_arg10 : FVec F S8x1024x344 .f32) (main_arg11 : FVec F S8x344x1024 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg8 main_v13 main_v16
-- ==== Kernel.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S1024x8 : Shape := ⟨2, ![1024, 8]⟩
abbrev S8x1024x344 : Shape := ⟨3, ![8, 1024, 344]⟩
abbrev S8x344x1024 : Shape := ⟨3, ![8, 344, 1024]⟩
abbrev S2048x1024 : Shape := ⟨2, ![2048, 1024]⟩
abbrev S32 : Shape := ⟨1, ![32]⟩
abbrev S_ : Shape := ⟨0, ![]⟩
abbrev S32x1 : Shape := ⟨2, ![32, 1]⟩
abbrev S32x2048 : Shape := ⟨2, ![32, 2048]⟩
abbrev S64x2048 : Shape := ⟨2, ![64, 2048]⟩
abbrev S1x64x1x2048 : Shape := ⟨4, ![1, 64, 1, 2048]⟩
abbrev S16x64x1x2048 : Shape := ⟨4, ![16, 64, 1, 2048]⟩
abbrev S1024x2048 : Shape := ⟨2, ![1024, 2048]⟩
abbrev S1024x1 : Shape := ⟨2, ![1024, 1]⟩
abbrev S16x64x2048 : Shape := ⟨3, ![16, 64, 2048]⟩
abbrev S256x1024 : Shape := ⟨2, ![256, 1024]⟩
abbrev S1024x256 : Shape := ⟨2, ![1024, 256]⟩
abbrev S16x64x256 : Shape := ⟨3, ![16, 64, 256]⟩
abbrev S256 : Shape := ⟨1, ![256]⟩
abbrev S1x256 : Shape := ⟨2, ![1, 256]⟩
abbrev S1x64x512 : Shape := ⟨3, ![1, 64, 512]⟩
abbrev S1x64x2048 : Shape := ⟨3, ![1, 64, 2048]⟩
abbrev S1x512 : Shape := ⟨2, ![1, 512]⟩
abbrev S64x512 : Shape := ⟨2, ![64, 512]⟩
abbrev S512x512 : Shape := ⟨2, ![512, 512]⟩
abbrev S512 : Shape := ⟨1, ![512]⟩
abbrev S8x2048 : Shape := ⟨2, ![8, 2048]⟩
abbrev S8x256 : Shape := ⟨2, ![8, 256]⟩
abbrev S1x1024x344 : Shape := ⟨3, ![1, 1024, 344]⟩
abbrev S1024x344 : Shape := ⟨2, ![1024, 344]⟩
abbrev S344x256 : Shape := ⟨2, ![344, 256]⟩
abbrev S1x344x1024 : Shape := ⟨3, ![1, 344, 1024]⟩
abbrev S344x1024 : Shape := ⟨2, ![344, 1024]⟩

abbrev nBuf : Space → Nat
  | .hbm => 99
  | .vmem => 53
  | .smem => 0
  | _ => 0

abbrev bufTy : (tb : Table) → Fin (tcTables nBuf tb) → BufTy
  | .hbm, ⟨0, _⟩ => ⟨S1x2048x1024, .f32⟩
  | .hbm, ⟨1, _⟩ => ⟨S1x2048, .i32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x8, .f32⟩
  | .hbm, ⟨9, _⟩ => ⟨S8x1024x344, .f32⟩
  | .hbm, ⟨10, _⟩ => ⟨S8x1024x344, .f32⟩
  | .hbm, ⟨11, _⟩ => ⟨S8x344x1024, .f32⟩
  | .hbm, ⟨12, _⟩ => ⟨S2048x1024, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S1x2048, .f32⟩
  | .hbm, ⟨30, _⟩ => ⟨S32x1, .f32⟩
  | .hbm, ⟨31, _⟩ => ⟨S32x2048, .f32⟩
  | .hbm, ⟨32, _⟩ => ⟨S32x2048, .f32⟩
  | .hbm, ⟨33, _⟩ => ⟨S32x2048, .f32⟩
  | .hbm, ⟨34, _⟩ => ⟨S64x2048, .f32⟩
  | .hbm, ⟨35, _⟩ => ⟨S64x2048, .f32⟩
  | .hbm, ⟨36, _⟩ => ⟨S1x64x1x2048, .f32⟩
  | .hbm, ⟨37, _⟩ => ⟨S16x64x1x2048, .f32⟩
  | .hbm, ⟨38, _⟩ => ⟨S1024x2048, .f32⟩
  | .hbm, ⟨39, _⟩ => ⟨S64x2048, .f32⟩
  | .hbm, ⟨40, _⟩ => ⟨S1x64x1x2048, .f32⟩
  | .hbm, ⟨41, _⟩ => ⟨S16x64x1x2048, .f32⟩
  | .hbm, ⟨42, _⟩ => ⟨S1024x2048, .f32⟩
  | .hbm, ⟨43, _⟩ => ⟨S1024, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S_, .i1⟩
  | .hbm, ⟨60, _⟩ => ⟨S1024, .i1⟩
  | .hbm, ⟨61, _⟩ => ⟨S1024, .i1⟩
  | .hbm, ⟨62, _⟩ => ⟨S1024, .i1⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i1⟩
  | .hbm, ⟨69, _⟩ => ⟨S1024x1, .i1⟩
  | .hbm, ⟨70, _⟩ => ⟨S1024x2048, .f32⟩
  | .hbm, ⟨71, _⟩ => ⟨S_, .f32⟩
  | .hbm, ⟨72, _⟩ => ⟨S_, .f32⟩
  | .hbm, ⟨73, _⟩ => ⟨S1024x2048, .i1⟩
  | .hbm, ⟨74, _⟩ => ⟨S1024x2048, .f32⟩
  | .hbm, ⟨75, _⟩ => ⟨S1024x2048, .f32⟩
  | .hbm, ⟨76, _⟩ => ⟨S_, .f32⟩
  | .hbm, ⟨77, _⟩ => ⟨S_, .f32⟩
  | .hbm, ⟨78, _⟩ => ⟨S1024x2048, .i1⟩
  | .hbm, ⟨79, _⟩ => ⟨S1024x2048, .f32⟩
  | .hbm, ⟨80, _⟩ => ⟨S1024x2048, .f32⟩
  | .hbm, ⟨81, _⟩ => ⟨S1024x1024, .bf16⟩
  | .hbm, ⟨82, _⟩ => ⟨S1024x1024, .bf16⟩
  | .hbm, ⟨83, _⟩ => ⟨S1024x1024, .bf16⟩
  | .hbm, ⟨84, _⟩ => ⟨S1024x1, .f32⟩
  | .hbm, ⟨85, _⟩ => ⟨S16x64x2048, .bf16⟩
  | .hbm, ⟨86, _⟩ => ⟨S16x64x2048, .bf16⟩
  | .hbm, ⟨87, _⟩ => ⟨S16x64x2048, .bf16⟩
  | .hbm, ⟨88, _⟩ => ⟨S16x64x2048, .bf16⟩
  | .hbm, ⟨89, _⟩ => ⟨S1024x1024, .bf16⟩
  | .hbm, ⟨90, _⟩ => ⟨S1024x1, .f32⟩
  | .hbm, ⟨91, _⟩ => ⟨S1024x2048, .f32⟩
  | .hbm, ⟨92, _⟩ => ⟨S1024x2048, .bf16⟩
  | .hbm, ⟨93, _⟩ => ⟨S8x2048, .f32⟩
  | .hbm, ⟨94, _⟩ => ⟨S8x1024x344, .bf16⟩
  | .hbm, ⟨95, _⟩ => ⟨S8x1024x344, .bf16⟩
  | .hbm, ⟨96, _⟩ => ⟨S8x344x1024, .bf16⟩
  | .hbm, ⟨97, _⟩ => ⟨S2048x1024, .f32⟩
  | .hbm, ⟨98, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S16x64x256, .bf16⟩
  | .local _ .vmem, ⟨13, _⟩ => ⟨S16x64x256, .bf16⟩
  | .local _ .vmem, ⟨14, _⟩ => ⟨S16x64x256, .bf16⟩
  | .local _ .vmem, ⟨15, _⟩ => ⟨S16x64x256, .bf16⟩
  | .local _ .vmem, ⟨16, _⟩ => ⟨S16x64x256, .bf16⟩
  | .local _ .vmem, ⟨17, _⟩ => ⟨S16x64x256, .bf16⟩
  | .local _ .vmem, ⟨18, _⟩ => ⟨S1x64x512, .bf16⟩
  | .local _ .vmem, ⟨19, _⟩ => ⟨S1x64x512, .bf16⟩
  | .local _ .vmem, ⟨20, _⟩ => ⟨S1x64x2048, .bf16⟩
  | .local _ .vmem, ⟨21, _⟩ => ⟨S1x64x2048, .bf16⟩
  | .local _ .vmem, ⟨22, _⟩ => ⟨S1x64x2048, .bf16⟩
  | .local _ .vmem, ⟨23, _⟩ => ⟨S1x64x2048, .bf16⟩
  | .local _ .vmem, ⟨24, _⟩ => ⟨S1x64x512, .bf16⟩
  | .local _ .vmem, ⟨25, _⟩ => ⟨S1x64x512, .bf16⟩
  | .local _ .vmem, ⟨26, _⟩ => ⟨S1x512, .f32⟩
  | .local _ .vmem, ⟨27, _⟩ => ⟨S1x512, .f32⟩
  | .local _ .vmem, ⟨28, _⟩ => ⟨S64x512, .f32⟩
  | .local _ .vmem, ⟨29, _⟩ => ⟨S16x64x256, .bf16⟩
  | .local _ .vmem, ⟨30, _⟩ => ⟨S16x64x256, .bf16⟩
  | .local _ .vmem, ⟨31, _⟩ => ⟨S256x1024, .f32⟩
  | .local _ .vmem, ⟨32, _⟩ => ⟨S256x1024, .f32⟩
  | .local _ .vmem, ⟨33, _⟩ => ⟨S1024x1024, .bf16⟩
  | .local _ .vmem, ⟨34, _⟩ => ⟨S1024x1, .f32⟩
  | .local _ .vmem, ⟨35, _⟩ => ⟨S1024x8, .f32⟩
  | .local _ .vmem, ⟨36, _⟩ => ⟨S1024x256, .f32⟩
  | .local _ .vmem, ⟨37, _⟩ => ⟨S1024x256, .f32⟩
  | .local _ .vmem, ⟨38, _⟩ => ⟨S1024x256, .bf16⟩
  | .local _ .vmem, ⟨39, _⟩ => ⟨S1024x256, .bf16⟩
  | .local _ .vmem, ⟨40, _⟩ => ⟨S8x256, .f32⟩
  | .local _ .vmem, ⟨41, _⟩ => ⟨S8x256, .f32⟩
  | .local _ .vmem, ⟨42, _⟩ => ⟨S1024x256, .bf16⟩
  | .local _ .vmem, ⟨43, _⟩ => ⟨S1024x256, .bf16⟩
  | .local _ .vmem, ⟨44, _⟩ => ⟨S1024x256, .f32⟩
  | .local _ .vmem, ⟨45, _⟩ => ⟨S1024x256, .f32⟩
  | .local _ .vmem, ⟨46, _⟩ => ⟨S8x256, .f32⟩
  | .local _ .vmem, ⟨47, _⟩ => ⟨S8x256, .f32⟩
  | .local _ .vmem, ⟨48, _⟩ => ⟨S8x1024x344, .bf16⟩
  | .local _ .vmem, ⟨49, _⟩ => ⟨S8x1024x344, .bf16⟩
  | .local _ .vmem, ⟨50, _⟩ => ⟨S8x344x1024, .bf16⟩
  | .local _ .vmem, ⟨51, _⟩ => ⟨S256x1024, .f32⟩
  | .local _ .vmem, ⟨52, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_v5 : Ref sig .tc := ⟨.hbm, 53, rfl⟩
abbrev main_call0_v6 : Ref sig .tc := ⟨.hbm, 54, rfl⟩
abbrev main_call0_c_2 : Ref sig .tc := ⟨.hbm, 55, rfl⟩
abbrev main_call0_v7 : Ref sig .tc := ⟨.hbm, 56, rfl⟩
abbrev main_call0_v8 : Ref sig .tc := ⟨.hbm, 57, rfl⟩
abbrev main_call0_c_3 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_v27 : Ref sig .tc := ⟨.hbm, 65, rfl⟩
abbrev main_c_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_5 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v32 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38_0 : Ref sig .tc := ⟨.hbm, 85, rfl⟩
abbrev main_v38_1 : Ref sig .tc := ⟨.hbm, 86, rfl⟩
abbrev main_v38_2 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42_0 : Ref sig .tc := ⟨.hbm, 91, rfl⟩
abbrev main_v42_1 : Ref sig .tc := ⟨.hbm, 92, rfl⟩
abbrev main_v42_2 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg6_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem6_1 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S16x64x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8x1024x344 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1024x344 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x344x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S1024x8 : Shape := ⟨2, ![1024, 8]⟩
abbrev S8x1024x344 : Shape := ⟨3, ![8, 1024, 344]⟩
abbrev S8x344x1024 : Shape := ⟨3, ![8, 344, 1024]⟩
abbrev S_ : Shape := ⟨0, ![]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S32 : Shape := ⟨1, ![32]⟩
abbrev S1x1x32 : Shape := ⟨3, ![1, 1, 32]⟩
abbrev S1x2048x32 : Shape := ⟨3, ![1, 2048, 32]⟩
abbrev S1x2048x64 : Shape := ⟨3, ![1, 2048, 64]⟩
abbrev S1x1x2048x64 : Shape := ⟨4, ![1, 1, 2048, 64]⟩
abbrev S1x16x2048x32 : Shape := ⟨4, ![1, 16, 2048, 32]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S2048x1024 : Shape := ⟨2, ![2048, 1024]⟩
abbrev S2048x8 : Shape := ⟨2, ![2048, 8]⟩
abbrev S2048x2 : Shape := ⟨2, ![2048, 2]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S2048x8x344 : Shape := ⟨3, ![2048, 8, 344]⟩
abbrev S8x1024x2048 : Shape := ⟨3, ![8, 1024, 2048]⟩
abbrev S2048x8x1024 : Shape := ⟨3, ![2048, 8, 1024]⟩

abbrev nBuf : Space → Nat
  | .hbm => 196
  | .vmem => 0
  | .smem => 0
  | _ => 0

abbrev hbmTy0_0 (i : Nat) : BufTy := match i % 128 with
  | 0 => ⟨S1x2048x1024, .f32⟩
  | 1 => ⟨S1x2048, .i32⟩
  | 2 => ⟨S1024, .f32⟩
  | 3 => ⟨S1024, .f32⟩
  | 4 => ⟨S1024x1024, .f32⟩
  | 5 => ⟨S1024x1024, .f32⟩
  | 6 => ⟨S1024x1024, .f32⟩
  | 7 => ⟨S1024x1024, .f32⟩
  | 8 => ⟨S1024x8, .f32⟩
  | 9 => ⟨S8x1024x344, .f32⟩
  | 10 => ⟨S8x1024x344, .f32⟩
  | 11 => ⟨S8x344x1024, .f32⟩
  | 12 => ⟨S1x2048x1024, .f32⟩
  | 13 => ⟨S_, .f32⟩
  | 14 => ⟨S1x2048, .f32⟩
  | 15 => ⟨S1x2048x1, .f32⟩
  | 16 => ⟨S_, .f32⟩
  | 17 => ⟨S1x2048x1, .f32⟩
  | 18 => ⟨S1x2048x1, .f32⟩
  | 19 => ⟨S_, .f32⟩
  | 20 => ⟨S1x2048x1, .f32⟩
  | 21 => ⟨S1x2048x1, .f32⟩
  | 22 => ⟨S1x2048x1, .f32⟩
  | 23 => ⟨S1x2048x1024, .f32⟩
  | 24 => ⟨S1x2048x1024, .f32⟩
  | 25 => ⟨S1x1x1024, .f32⟩
  | 26 => ⟨S1x2048x1024, .f32⟩
  | 27 => ⟨S1x2048x1024, .f32⟩
  | 28 => ⟨S1x2048x1024, .f32⟩
  | 29 => ⟨S1x2048x16x64, .f32⟩
  | 30 => ⟨S1x16x2048x64, .f32⟩
  | 31 => ⟨S1x2048x1024, .f32⟩
  | 32 => ⟨S1x2048x16x64, .f32⟩
  | 33 => ⟨S1x16x2048x64, .f32⟩
  | 34 => ⟨S1x2048x1024, .f32⟩
  | 35 => ⟨S1x2048x16x64, .f32⟩
  | 36 => ⟨S1x16x2048x64, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S1x2048, .f32⟩
  | 54 => ⟨S1x2048x1, .f32⟩
  | 55 => ⟨S1x1x32, .f32⟩
  | 56 => ⟨S1x2048x32, .f32⟩
  | 57 => ⟨S1x2048x32, .f32⟩
  | 58 => ⟨S1x2048x32, .f32⟩
  | 59 => ⟨S1x2048x64, .f32⟩
  | 60 => ⟨S1x2048x64, .f32⟩
  | 61 => ⟨S1x1x2048x64, .f32⟩
  | 62 => ⟨S1x2048x64, .f32⟩
  | 63 => ⟨S1x1x2048x64, .f32⟩
  | 64 => ⟨S1x16x2048x64, .f32⟩
  | 65 => ⟨S1x16x2048x64, .f32⟩
  | 66 => ⟨S1x16x2048x32, .f32⟩
  | 67 => ⟨S1x16x2048x32, .f32⟩
  | 68 => ⟨S1x16x2048x32, .f32⟩
  | 69 => ⟨S1x16x2048x64, .f32⟩
  | 70 => ⟨S1x16x2048x64, .f32⟩
  | 71 => ⟨S1x16x2048x64, .f32⟩
  | 72 => ⟨S1x16x2048x64, .f32⟩
  | 73 => ⟨S1x16x2048x64, .f32⟩
  | 74 => ⟨S1x16x2048x64, .f32⟩
  | 75 => ⟨S1x16x2048x32, .f32⟩
  | 76 => ⟨S1x16x2048x32, .f32⟩
  | 77 => ⟨S1x16x2048x32, .f32⟩
  | 78 => ⟨S1x16x2048x64, .f32⟩
  | 79 => ⟨S1x16x2048x64, .f32⟩
  | 80 => ⟨S1x16x2048x64, .f32⟩
  | 81 => ⟨S1x16x2048x64, .f32⟩
  | 82 => ⟨S1x16x2048x2048, .f32⟩
  | 83 => ⟨S_, .f32⟩
  | 84 => ⟨S1x16x2048x2048, .f32⟩
  | 85 => ⟨S1x16x2048x2048, .f32⟩
  | 86 => ⟨S_, .i1⟩
  | 87 => ⟨S2048x2048, .i1⟩
  | 88 => ⟨S2048x2048, .i32⟩
  | 89 => ⟨S_, .i32⟩
  | 90 => ⟨S2048x2048, .i32⟩
  | 91 => ⟨S2048x2048, .i32⟩
  | 92 => ⟨S2048x2048, .i32⟩
  | 93 => ⟨S2048x2048, .i1⟩
  | 94 => ⟨S_, .i1⟩
  | 95 => ⟨S2048x2048, .i1⟩
  | 96 => ⟨S2048x2048, .i1⟩
  | 97 => ⟨S1x1x2048x2048, .i1⟩
  | 98 => ⟨S_, .f32⟩
  | 99 => ⟨S_, .f32⟩
  | 100 => ⟨S1x16x2048x2048, .i1⟩
  | 101 => ⟨S1x16x2048x2048, .f32⟩
  | 102 => ⟨S1x16x2048x2048, .f32⟩
  | 103 => ⟨S_, .f32⟩
  | 104 => ⟨S1x16x2048, .f32⟩
  | 105 => ⟨S_, .f32⟩
  | 106 => ⟨S1x16x2048, .f32⟩
  | 107 => ⟨S1x16x2048, .f32⟩
  | 108 => ⟨S1x16x2048x1, .f32⟩
  | 109 => ⟨S1x16x2048x2048, .f32⟩
  | 110 => ⟨S1x16x2048x2048, .f32⟩
  | 111 => ⟨S1x16x2048x2048, .f32⟩
  | 112 => ⟨S_, .f32⟩
  | 113 => ⟨S1x16x2048, .f32⟩
  | 114 => ⟨S1x16x2048x1, .f32⟩
  | 115 => ⟨S1x16x2048x2048, .f32⟩
  | 116 => ⟨S1x16x2048x2048, .f32⟩
  | 117 => ⟨S1x16x2048x64, .f32⟩
  | 118 => ⟨S1x2048x16x64, .f32⟩
  | 119 => ⟨S1x2048x1024, .f32⟩
  | 120 => ⟨S1x2048x1024, .f32⟩
  | 121 => ⟨S1x2048x1024, .f32⟩
  | 122 => ⟨S1x2048x1024, .f32⟩
  | 123 => ⟨S_, .f32⟩
  | 124 => ⟨S1x2048, .f32⟩
  | 125 => ⟨S1x2048x1, .f32⟩
  | 126 => ⟨S_, .f32⟩
  | 127 => ⟨S1x2048x1, .f32⟩
  | _ => ⟨S1x2048x1024, .f32⟩

abbrev hbmTy0_1 (i : Nat) : BufTy := match i % 128 with
  | 0 => ⟨S1x2048x1, .f32⟩
  | 1 => ⟨S_, .f32⟩
  | 2 => ⟨S1x2048x1, .f32⟩
  | 3 => ⟨S1x2048x1, .f32⟩
  | 4 => ⟨S1x2048x1, .f32⟩
  | 5 => ⟨S1x2048x1024, .f32⟩
  | 6 => ⟨S1x2048x1024, .f32⟩
  | 7 => ⟨S1x1x1024, .f32⟩
  | 8 => ⟨S1x2048x1024, .f32⟩
  | 9 => ⟨S1x2048x1024, .f32⟩
  | 10 => ⟨S2048x1024, .f32⟩
  | 11 => ⟨S2048x8, .f32⟩
  | 12 => ⟨S2048x2, .f32⟩
  | 13 => ⟨S2048x2, .i32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x2, .f32⟩
  | 21 => ⟨S2048x2, .f32⟩
  | 22 => ⟨S2048x2, .f32⟩
  | 23 => ⟨S_, .f32⟩
  | 24 => ⟨S2048, .f32⟩
  | 25 => ⟨S2048x1, .f32⟩
  | 26 => ⟨S2048x2, .f32⟩
  | 27 => ⟨S2048x2, .f32⟩
  | 28 => ⟨S_, .f32⟩
  | 29 => ⟨S2048x8, .f32⟩
  | 30 => ⟨S2048, .i32⟩
  | 31 => ⟨S2048x1, .i32⟩
  | 32 => ⟨S_, .i32⟩
  | 33 => ⟨S2048x1, .i32⟩
  | 34 => ⟨S2048x1, .i1⟩
  | 35 => ⟨S_, .i32⟩
  | 36 => ⟨S2048x1, .i32⟩
  | 37 => ⟨S2048x1, .i32⟩
  | 38 => ⟨S2048x1, .i32⟩
  | 39 => ⟨S_, .i32⟩
  | 40 => ⟨S2048x2, .i32⟩
  | 41 => ⟨S2048x2, .i1⟩
  | 42 => ⟨S_, .i32⟩
  | 43 => ⟨S2048x2, .i32⟩
  | 44 => ⟨S2048x2, .i32⟩
  | 45 => ⟨S2048x2, .i32⟩
  | 46 => ⟨S2048x2, .i32⟩
  | 47 => ⟨S2048x2x1, .i32⟩
  | 48 => ⟨S2048x2x1, .i32⟩
  | 49 => ⟨S2048x2x2, .i32⟩
  | 50 => ⟨S2048x8, .f32⟩
  | 51 => ⟨S2048x8x344, .f32⟩
  | 52 => ⟨S2048x8x344, .f32⟩
  | 53 => ⟨S2048x8x344, .f32⟩
  | 54 => ⟨S2048x8x344, .f32⟩
  | 55 => ⟨S_, .f32⟩
  | 56 => ⟨S2048x8x344, .f32⟩
  | 57 => ⟨S2048x8x344, .f32⟩
  | 58 => ⟨S_, .f32⟩
  | 59 => ⟨S2048x8x344, .f32⟩
  | 60 => ⟨S2048x8x344, .f32⟩
  | 61 => ⟨S2048x8x344, .f32⟩
  | 62 => ⟨S2048x8x344, .f32⟩
  | 63 => ⟨S8x1024x2048, .f32⟩
  | 64 => ⟨S2048x8x1024, .f32⟩
  | 65 => ⟨S2048x1024, .f32⟩
  | 66 => ⟨S1x2048x1024, .f32⟩
  | 67 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_c : Ref sig .tc := ⟨.hbm, 86, rfl⟩
abbrev main_v65 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v68 : Ref sig .tc := ⟨.hbm, 102, rfl⟩
abbrev main_cst_9 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_11 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_12 : Ref sig .tc := ⟨.hbm, 123, rfl⟩
abbrev main_v86 : Ref sig .tc := ⟨.hbm, 124, rfl⟩
abbrev main_v87 : Ref sig .tc := ⟨.hbm, 125, rfl⟩
abbrev main_cst_13 : Ref sig .tc := ⟨.hbm, 126, rfl⟩
abbrev main_v88 : Ref sig .tc := ⟨.hbm, 127, rfl⟩
abbrev main_v89 : Ref sig .tc := ⟨.hbm, 128, rfl⟩
abbrev main_cst_14 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_values : Ref sig .tc := ⟨.hbm, 140, rfl⟩
abbrev main_indices : Ref sig .tc := ⟨.hbm, 141, rfl⟩
abbrev main_cst_15 : Ref sig .tc := ⟨.hbm, 142, rfl⟩
abbrev main_v100 : Ref sig .tc := ⟨.hbm, 143, rfl⟩
abbrev main_cst_16 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_17 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_18 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_19 : Ref sig .tc := ⟨.hbm, 160, rfl⟩
abbrev main_v114 : Ref sig .tc := ⟨.hbm, 161, rfl⟩
abbrev main_v115 : Ref sig .tc := ⟨.hbm, 162, rfl⟩
abbrev main_c_20 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_21 : Ref sig .tc := ⟨.hbm, 167, rfl⟩
abbrev main_v119 : Ref sig .tc := ⟨.hbm, 168, rfl⟩
abbrev main_v120 : Ref sig .tc := ⟨.hbm, 169, rfl⟩
abbrev main_c_22 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_call2_v0 : Ref sig .tc := ⟨.hbm, 181, rfl⟩
abbrev main_call2_v1 : Ref sig .tc := ⟨.hbm, 182, rfl⟩
abbrev main_call2_cst : Ref sig .tc := ⟨.hbm, 183, rfl⟩
abbrev main_call2_v2 : Ref sig .tc := ⟨.hbm, 184, rfl⟩
abbrev main_call2_v3 : Ref sig .tc := ⟨.hbm, 185, rfl⟩
abbrev main_call2_cst_0 : Ref sig .tc := ⟨.hbm, 186, rfl⟩
abbrev main_call2_v4 : Ref sig .tc := ⟨.hbm, 187, rfl⟩
abbrev main_call2_v5 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩

abbrev nD : Nat := 1
abbrev τ : Topo := Topo.v7x

variable {F : FTy → Type} [FloatOps F]
-- ==== Proof.Region0.lean ====
/- The first call (normalisation, the three projections, the rotation) as functions of its operand arrays. -/
module

public import proofs.«01_k».proof.Proof.Gen.KernelIdeal.Frame
public import Idealize.ShloMosaic.Lib.Pipeline.ValueKit
public import Idealize.ShloMosaic.Lib.Pointwise

@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The normalised input at token `s` and feature `d`. -/
def xnE (x : FVec Ideal S2048x1024 .f32) (w : FVec Ideal S1024x1 .f32) (s : Fin 2048) (d : Fin 1024) : EReal :=
  x (ix2 s d) * Ideal.rsqrt (Ideal.div (∑ e, x (ix2 s e) * x (ix2 s e)) (Ideal.ofBits FTy.f32 1149239296#32)
    + Ideal.ofBits FTy.f32 897988541#32) * w (ix2 d 0)

/-- Output feature `e` of a projection of the normalised input. -/
def projE (x : FVec Ideal S2048x1024 .f32) (w : FVec Ideal S1024x1 .f32) (W : FVec Ideal S1024x1024 .bf16)
    (s : Fin 2048) (e : Fin 1024) : EReal := ∑ d, W (ix2 d e) * xnE x w s d

/-- The rotated projection: the feature itself with the first table, the ones 32 after and 32 before with the others. -/
def ropeE (x : FVec Ideal S2048x1024 .f32) (w : FVec Ideal S1024x1 .f32) (W : FVec Ideal S1024x1024 .bf16)
    (co sa sb : FVec Ideal S1024x2048 .f32) (s : Fin 2048) (e : Fin 1024) : EReal :=
  projE x w W s e * co (ix2 e s)
    + projE x w W s ⟨(e.val + 1024 - 992) % 1024, Nat.mod_lt _ (by decide)⟩ * sa (ix2 e s)
    + projE x w W s ⟨(e.val + 1024 - 32) % 1024, Nat.mod_lt _ (by decide)⟩ * sb (ix2 e s)

/-- The named scale of the queries. -/
def scl : EReal := (Named.named (F := Ideal) (φ := .f32) κ "scale" 1043900987#32 : Ideal .f32)

/-- Feature `d` of head `h`. -/
def hd (h : Fin 16) (d : Fin 64) : Fin 1024 := ⟨h.val * 64 + d.val, by omega⟩

def qG (x : FVec Ideal S2048x1024 .f32) (w : FVec Ideal S1024x1 .f32) (W : FVec Ideal S1024x1024 .bf16)
    (co sa sb : FVec Ideal S1024x2048 .f32) : FVec Ideal S16x64x2048 .bf16 :=
  fun j => ropeE x w W co sa sb (j 2) (hd (j 0) (j 1)) * scl

def kG (x : FVec Ideal S2048x1024 .f32) (w : FVec Ideal S1024x1 .f32) (W : FVec Ideal S1024x1024 .bf16)
    (co sa sb : FVec Ideal S1024x2048 .f32) : FVec Ideal S16x64x2048 .bf16 :=
  fun j => ropeE x w W co sa sb (j 2) (hd (j 0) (j 1))

def vG (x : FVec Ideal S2048x1024 .f32) (w : FVec Ideal S1024x1 .f32) (W : FVec Ideal S1024x1024 .bf16) :
    FVec Ideal S16x64x2048 .bf16 :=
  fun j => projE x w W (j 2) (hd (j 0) (j 1))

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val] ∧ win0_6.index t = ![0, t.val]
    ∧ win0_7.index t = ![0, t.val] ∧ win0_8.index t = ![0, 0, t.val] ∧ win0_9.index t = ![0, 0, t.val]
    ∧ win0_10.index t = ![0, 0, t.val] := (by decide +kernel : ∀ t : Fin grid0.N, _)

/-- Token `s` of tile `t`. -/
def tok (t : Fin cfg0.N) (s : Fin 256) : Fin 2048 := ⟨t.val * 256 + s.val, by
  have : t.val < 8 := t.isLt
  omega⟩

theorem b0 (c : Dev nD) (t : Fin cfg0.N) (s : Fin 256) (d : Fin 1024) :
    (iblk0 V c 0 t : FVec Ideal S256x1024 .f32) (ix2 s d) = (V c main_v0 : FVec Ideal S2048x1024 .f32) (ix2 (tok t s) d) := by
  blk_ext [iblk0, idx0 t, tok]
theorem b1 (c : Dev nD) (t : Fin cfg0.N) : (iblk0 V c 1 t : FVec Ideal S1024x1024 .bf16) = V c main_v34 := by
  blk_ext! [iblk0, idx0 t]
theorem b2 (c : Dev nD) (t : Fin cfg0.N) : (iblk0 V c 2 t : FVec Ideal S1024x1024 .bf16) = V c main_v35 := by
  blk_ext! [iblk0, idx0 t]
theorem b3 (c : Dev nD) (t : Fin cfg0.N) : (iblk0 V c 3 t : FVec Ideal S1024x1024 .bf16) = V c main_v36 := by
  blk_ext! [iblk0, idx0 t]
theorem b4 (c : Dev nD) (t : Fin cfg0.N) : (iblk0 V c 4 t : FVec Ideal S1024x1 .f32) = V c main_v37 := by
  blk_ext! [iblk0, idx0 t]
theorem b5 (c : Dev nD) (t : Fin cfg0.N) (d : Fin 1024) (s : Fin 256) :
    (iblk0 V c 5 t : FVec Ideal S1024x256 .f32) (ix2 d s) = (V c main_v21 : FVec Ideal S1024x2048 .f32) (ix2 d (tok t s)) := by
  blk_ext [iblk0, idx0 t, tok]
theorem b6 (c : Dev nD) (t : Fin cfg0.N) (d : Fin 1024) (s : Fin 256) :
    (iblk0 V c 6 t : FVec Ideal S1024x256 .f32) (ix2 d s) = (V c main_v32 : FVec Ideal S1024x2048 .f32) (ix2 d (tok t s)) := by
  blk_ext [iblk0, idx0 t, tok]
theorem b7 (c : Dev nD) (t : Fin cfg0.N) (d : Fin 1024) (s : Fin 256) :
    (iblk0 V c 7 t : FVec Ideal S1024x256 .f32) (ix2 d s) = (V c main_v33 : FVec Ideal S1024x2048 .f32) (ix2 d (tok t s)) := by
  blk_ext [iblk0, idx0 t, tok]

variable (x0 : FVec Ideal S256x1024 .f32) (x1 x2 x3 : FVec Ideal S1024x1024 .bf16) (x4 : FVec Ideal S1024x1 .f32)
  (x5 x6 x7 : FVec Ideal S1024x256 .f32) (h : Fin 16) (d : Fin 64) (s : Fin 256)

/-- The normalised block. -/
def xnB (d : Fin 1024) : EReal :=
  x0 (ix2 s d) * Ideal.rsqrt (Ideal.div (∑ e, x0 (ix2 s e) * x0 (ix2 s e)) (Ideal.ofBits FTy.f32 1149239296#32)
    + Ideal.ofBits FTy.f32 897988541#32) * x4 (ix2 d 0)

theorem out_v : out0_10 (F := Ideal) x0 x1 x2 x3 x4 x5 x6 x7 (ix3 h d s) = ∑ e, x3 (ix2 e (hd h d)) * xnB x0 x4 s e := by
  frame_out
  pointwise [k0_pay3, k0_pay10, k0_pay4]
  rfl

theorem out_q : out0_8 (F := Ideal) x0 x1 x2 x3 x4 x5 x6 x7 (ix3 h d s)
    = ((∑ e, x1 (ix2 e (hd h d)) * xnB x0 x4 s e) * x5 (ix2 (hd h d) s)
    + (∑ e, x1 (ix2 e ⟨((hd h d).val + 1024 - 992) % 1024, Nat.mod_lt _ (by decide)⟩) * xnB x0 x4 s e) * x6 (ix2 (hd h d) s)
    + (∑ e, x1 (ix2 e ⟨((hd h d).val + 1024 - 32) % 1024, Nat.mod_lt _ (by decide)⟩) * xnB x0 x4 s e) * x7 (ix2 (hd h d) s))
      * scl := by
  frame_out
  pointwise [k0_pay1, k0_pay8, k0_pay4, k0_pay11, k0_pay12, k0_pay5, k0_pay6, k0_pay7, k0_pay13, k0_pay14, k0_pay15]
  rfl

theorem out_k : out0_9 (F := Ideal) x0 x1 x2 x3 x4 x5 x6 x7 (ix3 h d s)
    = ((∑ e, x2 (ix2 e (hd h d)) * xnB x0 x4 s e) * x5 (ix2 (hd h d) s)
    + (∑ e, x2 (ix2 e ⟨((hd h d).val + 1024 - 992) % 1024, Nat.mod_lt _ (by decide)⟩) * xnB x0 x4 s e) * x6 (ix2 (hd h d) s)
    + (∑ e, x2 (ix2 e ⟨((hd h d).val + 1024 - 32) % 1024, Nat.mod_lt _ (by decide)⟩) * xnB x0 x4 s e) * x7 (ix2 (hd h d) s)) := by
  frame_out
  pointwise [k0_pay2, k0_pay9, k0_pay4, k0_pay5, k0_pay6, k0_pay7, k0_pay13, k0_pay14, k0_pay15]
  rfl

theorem emb_q (t : Fin cfg0.N) (a : Fin 16) (b : Fin 64) (s : Fin 256) :
    (((View.whole main_v38_0).slice (win0_8.rect t)).emb (ix3 a b s) : S16x64x2048.Idx) = ix3 a b (tok t s) := by
  blk_ext [idx0 t, tok]

theorem emb_k (t : Fin cfg0.N) (a : Fin 16) (b : Fin 64) (s : Fin 256) :
    (((View.whole main_v38_1).slice (win0_9.rect t)).emb (ix3 a b s) : S16x64x2048.Idx) = ix3 a b (tok t s) := by
  blk_ext [idx0 t, tok]

theorem emb_v (t : Fin cfg0.N) (a : Fin 16) (b : Fin 64) (s : Fin 256) :
    (((View.whole main_v38_2).slice (win0_10.rect t)).emb (ix3 a b s) : S16x64x2048.Idx) = ix3 a b (tok t s) := by
  blk_ext [idx0 t, tok]

theorem q_arr (c : Dev nD) : (dat0 V c).arrAt 8 cfg0.N = qG (V c main_v0) (V c main_v37) (V c main_v34) (V c main_v21) (V c main_v32) (V c main_v33) := by
  refine (dat0 V c).arrAt_eq_of_covers 8 _ (by decide +kernel) fun t _ y => ?_
  blk_simp
  rw [after0_8]
  idx_vars y
  refine (out_q _ _ _ _ _ _ _ _ _ _ _).trans (Eq.trans ?_ (congrArg _ (emb_q t y0 y1 y2)).symm)
  simp only [xnB, b0, b1, b2, b3, b4, b5, b6, b7]
  rfl

theorem k_arr (c : Dev nD) : (dat0 V c).arrAt 9 cfg0.N = kG (V c main_v0) (V c main_v37) (V c main_v35) (V c main_v21) (V c main_v32) (V c main_v33) := by
  refine (dat0 V c).arrAt_eq_of_covers 9 _ (by decide +kernel) fun t _ y => ?_
  blk_simp
  rw [after0_9]
  idx_vars y
  refine (out_k _ _ _ _ _ _ _ _ _ _ _).trans (Eq.trans ?_ (congrArg _ (emb_k t y0 y1 y2)).symm)
  simp only [xnB, b0, b1, b2, b3, b4, b5, b6, b7]
  rfl

theorem v_arr (c : Dev nD) : (dat0 V c).arrAt 10 cfg0.N = vG (V c main_v0) (V c main_v37) (V c main_v36) := by
  refine (dat0 V c).arrAt_eq_of_covers 10 _ (by decide +kernel) fun t _ y => ?_
  blk_simp
  rw [after0_10]
  idx_vars y
  refine (out_v _ _ _ _ _ _ _ _ _ _ _).trans (Eq.trans ?_ (congrArg _ (emb_v t y0 y1 y2)).symm)
  simp only [xnB, b0, b1, b2, b3, b4, b5, b6, b7]
  rfl

end Cert.KernelIdeal.Val
-- ==== Proof.Online.lean ====
/- A softmax-weighted sum taken block by block with a running maximum, on the extended reals, and its closed form. -/
module

public import Idealize.ShloMosaic.Lib.IdealHost
public import Idealize.ShloMosaic.Lib.Pointwise

@[expose] public section
noncomputable section
namespace Cert.KernelIdeal.Val
open Idealize.ShloMosaic

/-- The running maximum after one more block `S`. -/
def mS (M : EReal) (S : Fin 512 → EReal) : EReal :=
  max M (Finset.fold max (Ideal.ofBits FTy.f32 4286578688#32) S Finset.univ)

/-- The running denominator after one more block. -/
def lS (M L : EReal) (S : Fin 512 → EReal) : EReal :=
  L * Ideal.exp2 (M - mS M S) + ∑ x, Ideal.exp2 (S x - mS M S)

/-- The running numerator after one more block with values `Y`. -/
def aS (M A : EReal) (S Y : Fin 512 → EReal) : EReal :=
  A * Ideal.exp2 (M - mS M S) + ∑ x, Y x * Ideal.exp2 (S x - mS M S)

/-- The running maximum after `n` blocks. -/
def mAt (s : ℕ → Fin 512 → EReal) : ℕ → EReal
  | 0 => ⊥
  | n + 1 => mS (mAt s n) (s n)

/-- The running denominator after `n` blocks. -/
def lAt (s : ℕ → Fin 512 → EReal) : ℕ → EReal
  | 0 => 0
  | n + 1 => lS (mAt s n) (lAt s n) (s n)

/-- The running numerator after `n` blocks. -/
def aAt (s v : ℕ → Fin 512 → EReal) : ℕ → EReal
  | 0 => 0
  | n + 1 => aS (mAt s n) (aAt s v n) (s n) (v n)

/-- A sum of reals taken in the extended reals is the real sum. -/
theorem coe_sum {ι : Type} (t : Finset ι) (f : ι → ℝ) : (∑ x ∈ t, (f x : EReal)) = ((∑ x ∈ t, f x : ℝ) : EReal) := by
  classical
  induction t using Finset.induction_on with
  | empty => simp
  | insert a t ha ih => rw [Finset.sum_insert ha, Finset.sum_insert ha, ih, EReal.coe_add]

/-- A nonnegative real factor is taken inside a sum of extended reals. -/
theorem sum_mul_real {ι : Type} (t : Finset ι) (f : ι → EReal) {r : ℝ} (hr : 0 ≤ r) :
    (∑ x ∈ t, f x) * (r : EReal) = ∑ x ∈ t, f x * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A folded maximum is its start or one of its members. -/
theorem foldmax_mem {ι : Type} (b : EReal) (f : ι → EReal) (t : Finset ι) :
    t.fold max b f = b ∨ ∃ x ∈ t, t.fold max b f = f x := by
  classical
  induction t using Finset.induction_on with
  | empty => exact Or.inl rfl
  | insert a t ha ih =>
    rw [Finset.fold_insert ha]
    rcases le_total (f a) (t.fold max b f) with h | h
    · rw [max_eq_right h]
      rcases ih with ih | ⟨x, hx, ih⟩
      · exact Or.inl ih
      · exact Or.inr ⟨x, Finset.mem_insert_of_mem hx, ih⟩
    · rw [max_eq_left h]
      exact Or.inr ⟨a, Finset.mem_insert_self _ _, rfl⟩

/-- Each member is at most the folded maximum. -/
theorem le_foldmax {ι : Type} (b : EReal) (f : ι → EReal) (t : Finset ι) (x : ι) (hx : x ∈ t) : f x ≤ t.fold max b f :=
  (Finset.le_fold_max (f x)).mpr (Or.inr ⟨x, hx, le_rfl⟩)

theorem ofBits_bot : Ideal.ofBits FTy.f32 4286578688#32 = ⊥ := by
  with_unfolding_all rfl

/-- A maximum folded from bottom over reals and bottoms is real as soon as one member is. -/
theorem foldmax_real {ι : Type} (P : ι → Prop) [DecidablePred P] (σ : ι → ℝ) (t : Finset ι) (x : ι) (hx : x ∈ t)
    (hP : P x) : ∃ μ : ℝ, t.fold max ⊥ (fun y => if P y then (σ y : EReal) else ⊥) = (μ : EReal) := by
  have h := le_foldmax ⊥ (fun y => if P y then (σ y : EReal) else ⊥) t x hx
  rw [if_pos hP] at h
  rcases foldmax_mem ⊥ (fun y => if P y then (σ y : EReal) else ⊥) t with h' | ⟨y, -, h'⟩
  · rw [h'] at h
    exact absurd h (by simp)
  · by_cases hy : P y
    · exact ⟨σ y, by rw [h', if_pos hy]⟩
    · rw [h', if_neg hy] at h
      exact absurd h (by simp)

section
variable (P : ℕ → Fin 512 → Prop) [∀ n, DecidablePred (P n)] (σ : ℕ → Fin 512 → ℝ) (ν : ℕ → Fin 512 → EReal)

/-- The weight of a key: two to its score, or nothing where the key is masked. -/
def wt (n : ℕ) (x : Fin 512) : ℝ := if P n x then (2 : ℝ) ^ (σ n x) else 0

/-- The masked scores. -/
def msc (n : ℕ) (x : Fin 512) : EReal := if P n x then (σ n x : EReal) else ⊥

theorem exp2_msc (n : ℕ) (x : Fin 512) (μ : ℝ) :
    Ideal.exp2 (msc P σ n x - (μ : EReal)) = ((wt P σ n x * (2 : ℝ) ^ (-μ) : ℝ) : EReal) := by
  unfold msc wt
  split
  · rw [← EReal.coe_sub, Ideal.exp2_coe, sub_eq_add_neg]
    exact congrArg _ (Real.rpow_add (by norm_num) _ _)
  · rw [EReal.bot_sub, Ideal.exp2_bot, zero_mul, EReal.coe_zero]

theorem wt_nonneg (n : ℕ) (x : Fin 512) : 0 ≤ wt P σ n x := by
  unfold wt
  split
  · exact (Real.rpow_pos_of_pos (by norm_num) _).le
  · exact le_rfl

theorem mS_real (M : EReal) (n : ℕ) (hM : (∃ μ : ℝ, M = μ) ∨ (M = ⊥ ∧ ∃ x, P n x)) :
    ∃ μ : ℝ, mS M (msc P σ n) = (μ : EReal) := by
  unfold mS
  rw [ofBits_bot]
  rcases hM with ⟨μ, rfl⟩ | ⟨rfl, x, hx⟩
  · rcases foldmax_mem ⊥ (msc P σ n) Finset.univ with h | ⟨y, -, h⟩
    · exact ⟨μ, by rw [h]; exact max_eq_left bot_le⟩
    · rw [h]
      unfold msc
      split
      · exact ⟨max μ (σ n y), (EReal.coe_strictMono.monotone.map_max).symm⟩
      · exact ⟨μ, max_eq_left bot_le⟩
  · obtain ⟨μ, h⟩ := foldmax_real (P n) (σ n) Finset.univ x (Finset.mem_univ _) hx
    exact ⟨μ, by rw [max_eq_right bot_le]; exact h⟩

/-- After at least one block, the running maximum is real, and the denominator and the numerator are the sums of the
    weights and of the weighted values, each weight scaled by two to minus the running maximum. -/
theorem online (h0 : ∃ x, P 0 x) (n : ℕ) : ∃ μ : ℝ, mAt (msc P σ) (n + 1) = (μ : EReal)
    ∧ lAt (msc P σ) (n + 1) = (((∑ k ∈ Finset.range (n + 1), ∑ x, wt P σ k x) * (2 : ℝ) ^ (-μ) : ℝ) : EReal)
    ∧ aAt (msc P σ) ν (n + 1)
      = ∑ k ∈ Finset.range (n + 1), ∑ x, ν k x * ((wt P σ k x * (2 : ℝ) ^ (-μ) : ℝ) : EReal) := by
  induction n with
  | zero =>
    obtain ⟨μ, hμ⟩ := mS_real P σ ⊥ 0 (Or.inr ⟨rfl, h0⟩)
    refine ⟨μ, hμ, ?_, ?_⟩
    · show lS ⊥ 0 (msc P σ 0) = _
      unfold lS
      rw [hμ, zero_mul, zero_add]
      simp only [exp2_msc]
      rw [coe_sum, Finset.sum_range_one, Finset.sum_mul]
    · show aS ⊥ 0 (msc P σ 0) _ = _
      unfold aS
      rw [hμ, zero_mul, zero_add]
      simp only [exp2_msc]
      rw [Finset.sum_range_one]
  | succ n ih =>
    obtain ⟨μ, hm, hl, ha⟩ := ih
    obtain ⟨μ', hμ⟩ := mS_real P σ (mAt (msc P σ) (n + 1)) (n + 1) (Or.inl ⟨μ, hm⟩)
    have hα : Ideal.exp2 ((μ : EReal) - (μ' : EReal)) = (((2 : ℝ) ^ μ * (2 : ℝ) ^ (-μ') : ℝ) : EReal) := by
      rw [← EReal.coe_sub, Ideal.exp2_coe, sub_eq_add_neg]
      exact congrArg _ (Real.rpow_add (by norm_num) _ _)
    have hc : (2 : ℝ) ^ (-μ) * (2 : ℝ) ^ μ = 1 := by
      rw [← Real.rpow_add (by norm_num), neg_add_cancel, Real.rpow_zero]
    refine ⟨μ', hμ, ?_, ?_⟩
    · show lS (mAt (msc P σ) (n + 1)) (lAt (msc P σ) (n + 1)) (msc P σ (n + 1)) = _
      unfold lS
      rw [hμ, hl, hm, hα]
      simp only [exp2_msc]
      rw [coe_sum, ← EReal.coe_mul, ← EReal.coe_add, Finset.sum_range_succ _ (n + 1), add_mul, ← Finset.sum_mul]
      refine congrArg (fun r : ℝ => (r : EReal)) (congrArg (· + _) ?_)
      calc _ = (∑ k ∈ Finset.range (n + 1), ∑ x, wt P σ k x) * ((2 : ℝ) ^ (-μ) * (2 : ℝ) ^ μ) * (2 : ℝ) ^ (-μ') := by ring
        _ = _ := by rw [hc, mul_one]
    · show aS (mAt (msc P σ) (n + 1)) (aAt (msc P σ) _ (n + 1)) (msc P σ (n + 1)) _ = _
      unfold aS
      rw [hμ, ha, hm, hα]
      simp only [exp2_msc]
      rw [Finset.sum_range_succ _ (n + 1)]
      have hp : (0 : ℝ) ≤ (2 : ℝ) ^ μ * (2 : ℝ) ^ (-μ') :=
        mul_nonneg (Real.rpow_nonneg (by norm_num) _) (Real.rpow_nonneg (by norm_num) _)
      refine congrArg (· + _) ((sum_mul_real _ _ hp).trans (Finset.sum_congr rfl fun k _ => (sum_mul_real _ _ hp).trans
        (Finset.sum_congr rfl fun x _ => ?_)))
      rw [mul_assoc, ← EReal.coe_mul]
      refine congrArg (fun r : ℝ => ν k x * (r : EReal)) ?_
      calc _ = wt P σ k x * ((2 : ℝ) ^ (-μ) * (2 : ℝ) ^ μ) * (2 : ℝ) ^ (-μ') := by ring
        _ = _ := by rw [hc, mul_one]

/-- The quotient of the running numerator and denominator is the weighted mean of the values. -/
theorem online_div (h0 : ∃ x, P 0 x) (n : ℕ) :
    Ideal.div (aAt (msc P σ) ν (n + 1)) (lAt (msc P σ) (n + 1))
      = ∑ k ∈ Finset.range (n + 1), ∑ x,
        ν k x * ((wt P σ k x / (∑ k ∈ Finset.range (n + 1), ∑ x, wt P σ k x) : ℝ) : EReal) := by
  obtain ⟨μ, -, hl, ha⟩ := online P σ ν h0 n
  have hp : (0 : ℝ) < (2 : ℝ) ^ (-μ) := Real.rpow_pos_of_pos (by norm_num) _
  have hw := wt_nonneg P σ
  have hs : (0 : ℝ) < ∑ k ∈ Finset.range (n + 1), ∑ x, wt P σ k x := by
    obtain ⟨x, hx⟩ := h0
    have h1 : 0 < wt P σ 0 x := by
      unfold wt
      rw [if_pos hx]
      exact Real.rpow_pos_of_pos (by norm_num) _
    refine Finset.sum_pos' (fun k _ => Finset.sum_nonneg fun x _ => hw k x) ⟨0, by simp, ?_⟩
    exact Finset.sum_pos' (fun x _ => hw 0 x) ⟨x, Finset.mem_univ _, h1⟩
  rw [ha, hl, Ideal.div_coe (mul_pos hs hp).ne']
  have hd : (0 : ℝ) ≤ 1 / ((∑ k ∈ Finset.range (n + 1), ∑ x, wt P σ k x) * (2 : ℝ) ^ (-μ)) := (one_div_pos.mpr (mul_pos hs hp)).le
  refine (sum_mul_real _ _ hd).trans (Finset.sum_congr rfl fun k _ => (sum_mul_real _ _ hd).trans
    (Finset.sum_congr rfl fun x _ => ?_))
  rw [mul_assoc, ← EReal.coe_mul]
  refine congrArg (fun r : ℝ => ν k x * (r : EReal)) ?_
  rw [mul_one_div, mul_div_mul_right _ _ hp.ne']
end

/-- A sum over consecutive blocks of 512 is the sum over all positions. -/
theorem sum_blocks {M : Type} [AddCommMonoid M] (F : ℕ → M) (n : ℕ) :
    (∑ k ∈ Finset.range n, ∑ x : Fin 512, F (k * 512 + x.val)) = ∑ j ∈ Finset.range (n * 512), F j := by
  induction n with
  | zero => simp
  | succ n ih =>
    rw [Finset.sum_range_succ, ih, Nat.succ_mul, Finset.sum_range_add, Fin.sum_univ_eq_sum_range (fun x => F (n * 512 + x))]

end Cert.KernelIdeal.Val
-- ==== Proof.Spec.lean ====
/- The layer's mathematics on extended reals, entry by entry, and where its values are real. -/
module

public import proofs.«01_k».proof.Proof.Online

@[expose] public section
noncomputable section
namespace Cert.Layer
open Idealize.ShloMosaic

/-- Root-mean-square normalisation of row `s`, scaled by `w`. -/
def nrm (X : Fin 2048 → Fin 1024 → EReal) (w : Fin 1024 → EReal) (s : Fin 2048) (d : Fin 1024) : EReal :=
  X s d * Ideal.rsqrt (Ideal.div (∑ e, X s e * X s e) (Ideal.ofBits FTy.f32 1149239296#32) + Ideal.ofBits FTy.f32 897988541#32) * w d

/-- A row times a matrix. -/
def lin {m : ℕ} (A : Fin 2048 → Fin 1024 → EReal) (W : Fin 1024 → Fin m → EReal) (s : Fin 2048) (e : Fin m) : EReal :=
  ∑ d, A s d * W d e

/-- The feature `d` of head `h`. -/
def hd (h : Fin 16) (d : Fin 64) : Fin 1024 := ⟨h.val * 64 + d.val, by omega⟩

/-- The inverse frequency of rotation pair `k`. -/
def frq (k : Fin 32) : EReal :=
  Ideal.div 1 (Ideal.pow (Ideal.ofBits FTy.f32 1176256512#32)
    (Ideal.div (Ideal.ofBits FTy.f32 1073741824#32 * FloatOps.sitofp (F := Ideal) FTy.f32 (BitVec.ofNat 32 k.val))
      (Ideal.ofBits FTy.f32 1115684864#32)))

/-- The rotation angle of position `s` and pair `k`. -/
def ang (P : Fin 2048 → BitVec 32) (s : Fin 2048) (k : Fin 32) : EReal :=
  FloatOps.sitofp (F := Ideal) FTy.f32 (P s) * frq k

/-- The rotary embedding of head `h` of the projection `f`. -/
def rot (f : Fin 2048 → Fin 1024 → EReal) (P : Fin 2048 → BitVec 32) (h : Fin 16) (s : Fin 2048) (d : Fin 64) : EReal :=
  if hlt : d.val < 32 then
    f s (hd h d) * Ideal.cos (ang P s ⟨d.val, hlt⟩) + -f s (hd h ⟨32 + d.val, by omega⟩) * Ideal.sin (ang P s ⟨d.val, hlt⟩)
  else
    f s (hd h d) * Ideal.cos (ang P s ⟨d.val - 32, by omega⟩)
      + f s (hd h ⟨d.val - 32, by omega⟩) * Ideal.sin (ang P s ⟨d.val - 32, by omega⟩)

/-- The unnormalised attention weight of key `j` for query `i`, nothing after the query. -/
def ew (Q K : Fin 16 → Fin 2048 → Fin 64 → EReal) (h : Fin 16) (i j : Fin 2048) : ℝ :=
  if j ≤ i then Real.exp ((∑ d, (Q h i d).toReal * (K h j d).toReal) / 8) else 0

/-- The attention output of head `h` at position `i`: the softmax-weighted mean of the values. -/
def att (Q K V : Fin 16 → Fin 2048 → Fin 64 → EReal) (h : Fin 16) (i : Fin 2048) (d : Fin 64) : EReal :=
  ∑ j, ((ew Q K h i j / ∑ j, ew Q K h i j : ℝ) : EReal) * V h j d

/-- The hidden state after attention. -/
def hid (X : Fin 2048 → Fin 1024 → EReal) (A : Fin 16 → Fin 2048 → Fin 64 → EReal) (W : Fin 1024 → Fin 1024 → EReal)
    (s : Fin 2048) (d : Fin 1024) : EReal :=
  X s d + ∑ e : Fin 1024, A ⟨e.val / 64, by omega⟩ s ⟨e.val % 64, by omega⟩ * W e d

/-- `i` and `j` are the places of the two greatest of `l`, the lower place first among equals. -/
def IsTop (l : Fin 8 → EReal) (i j : Fin 8) : Prop :=
  (∀ k, l k ≤ l i ∧ (l k = l i → i ≤ k)) ∧ j ≠ i ∧ ∀ k, k ≠ i → l k ≤ l j ∧ (l k = l j → j ≤ k)

/-- The gate of expert `e`: the softmax of the two greatest scores, zero elsewhere. -/
def gat (l : Fin 8 → EReal) (i j e : Fin 8) : EReal :=
  if e = i then (((1 + Real.exp ((l j).toReal - (l i).toReal))⁻¹ : ℝ) : EReal)
  else if e = j then ((1 - (1 + Real.exp ((l j).toReal - (l i).toReal))⁻¹ : ℝ) : EReal) else 0

/-- The value is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.eq {x : EReal} (h : IsR x) : x = (x.toReal : EReal) := by
  obtain ⟨r, rfl⟩ := h
  rfl
theorem IsR.add {x y : EReal} (hx : IsR x) (hy : IsR y) : IsR (x + y) := by
  obtain ⟨a, rfl⟩ := hx
  obtain ⟨b, rfl⟩ := hy
  exact ⟨a + b, (EReal.coe_add _ _).symm⟩
theorem IsR.mul {x y : EReal} (hx : IsR x) (hy : IsR y) : IsR (x * y) := by
  obtain ⟨a, rfl⟩ := hx
  obtain ⟨b, rfl⟩ := hy
  exact ⟨a * b, (EReal.coe_mul _ _).symm⟩
theorem IsR.neg {x : EReal} (hx : IsR x) : IsR (-x) := by
  obtain ⟨a, rfl⟩ := hx
  exact ⟨-a, (EReal.coe_neg _).symm⟩
theorem IsR.sum {ι : Type} (t : Finset ι) {f : ι → EReal} (h : ∀ x, IsR (f x)) : IsR (∑ x ∈ t, f x) := by
  choose g hg using h
  simp only [hg]
  rw [Cert.KernelIdeal.Val.coe_sum]
  exact IsR.coe _
theorem IsR.logistic {x : EReal} (hx : IsR x) : IsR (Ideal.logistic x) := by
  obtain ⟨a, rfl⟩ := hx
  exact ⟨_, Ideal.logistic_coe _⟩

theorem ofBits_1024 : Ideal.ofBits FTy.f32 1149239296#32 = ((1024 : ℝ) : EReal) := by
  simp [Ideal.ofBits, Ideal.ieee, -EReal.coe_mul]
  norm_num
theorem ofBits_8 : Ideal.ofBits FTy.f32 1090519040#32 = ((8 : ℝ) : EReal) := by
  simp [Ideal.ofBits, Ideal.ieee, -EReal.coe_mul]
  norm_num
theorem ofBits_64 : Ideal.ofBits FTy.f32 1115684864#32 = ((64 : ℝ) : EReal) := by
  simp [Ideal.ofBits, Ideal.ieee, -EReal.coe_mul]
  norm_num
theorem ofBits_2 : Ideal.ofBits FTy.f32 1073741824#32 = ((2 : ℝ) : EReal) := by
  simp [Ideal.ofBits, Ideal.ieee, -EReal.coe_mul]
  norm_num
theorem ofBits_10000 : Ideal.ofBits FTy.f32 1176256512#32 = ((10000 : ℝ) : EReal) := by
  simp [Ideal.ofBits, Ideal.ieee, -EReal.coe_mul]
  norm_num
theorem ofBits_eps : ∃ r : ℝ, 0 < r ∧ Ideal.ofBits FTy.f32 897988541#32 = (r : EReal) := by
  refine ⟨8796093 * 2 ^ (-43 : ℤ), by positivity, ?_⟩
  simp [Ideal.ofBits, Ideal.ieee]

/-- A normalised row is real, whatever the row: the mean square of a row with an infinite entry is infinite, so its
    inverse square root is zero. -/
theorem IsR.nrm {X : Fin 2048 → Fin 1024 → EReal} {w : Fin 1024 → EReal} (hw : ∀ d, IsR (w d))
    (s : Fin 2048) (d : Fin 1024) : IsR (nrm X w s d) := by
  unfold Layer.nrm
  obtain ⟨ε, hε, he⟩ := ofBits_eps
  by_cases hX : ∀ d, IsR (X s d)
  · refine ((hX d).mul ?_).mul (hw d)
    choose x hx using hX
    rw [ofBits_1024, he]
    simp only [hx, ← EReal.coe_mul]
    rw [Cert.KernelIdeal.Val.coe_sum, Ideal.div_coe (by norm_num), ← EReal.coe_mul, ← EReal.coe_add, Ideal.rsqrt_coe]
    have h : 0 < (∑ e, x e * x e) * (1 / 1024) + ε :=
      add_pos_of_nonneg_of_pos (mul_nonneg (Finset.sum_nonneg fun e _ => mul_self_nonneg _) (by norm_num)) hε
    rw [if_neg (not_lt.mpr h.le), if_neg h.ne']
    exact IsR.coe _
  · obtain ⟨e, hi⟩ := not_forall.mp hX
    have h0 : ∀ x : EReal, 0 ≤ x * x := fun x => by
      induction x using EReal.rec with
      | bot => simp
      | coe r => rw [← EReal.coe_mul]; exact EReal.coe_nonneg.mpr (mul_self_nonneg r)
      | top => simp
    have h1 : X s e * X s e = ⊤ := by
      generalize X s e = x at hi ⊢
      induction x using EReal.rec with
      | bot => exact EReal.bot_mul_bot
      | coe r => exact absurd (IsR.coe r) hi
      | top => exact EReal.top_mul_top
    have h2 : ∑ e, X s e * X s e = ⊤ := by
      refine top_le_iff.mp (h1 ▸ ?_)
      exact Finset.single_le_sum (f := fun e => X s e * X s e) (fun e _ => h0 _) (Finset.mem_univ e)
    have h3 : Ideal.rsqrt (⊤ : EReal) = 0 := rfl
    rw [h2, ofBits_1024, he, Ideal.div_coe (by norm_num), EReal.top_mul_coe_of_pos (by norm_num), EReal.top_add_coe, h3,
      mul_zero, zero_mul]
    exact IsR.zero

theorem IsR.lin {m : ℕ} {A : Fin 2048 → Fin 1024 → EReal} {W : Fin 1024 → Fin m → EReal} (hA : ∀ s d, IsR (A s d))
    (hW : ∀ d e, IsR (W d e)) (s : Fin 2048) (e : Fin m) : IsR (lin A W s e) :=
  IsR.sum _ fun d => (hA s d).mul (hW d e)

theorem IsR.frq (k : Fin 32) : IsR (frq k) := by
  unfold Layer.frq
  have hi : FloatOps.sitofp (F := Ideal) FTy.f32 (BitVec.ofNat 32 k.val) = (((BitVec.ofNat 32 k.val).toInt : ℝ) : EReal) := rfl
  rw [ofBits_10000, ofBits_2, ofBits_64, hi, ← EReal.coe_mul, Ideal.div_coe (by norm_num), ← EReal.coe_mul, Ideal.pow_coe_coe,
    Ideal.div_coe (y := Real.rpow _ _) (ne_of_gt (Real.rpow_pos_of_pos (by norm_num) _)), one_mul]
  exact IsR.coe _

theorem IsR.ang (P : Fin 2048 → BitVec 32) (s : Fin 2048) (k : Fin 32) : IsR (ang P s k) :=
  IsR.mul ⟨((P s).toInt : ℝ), rfl⟩ (IsR.frq k)

theorem IsR.cos {x : EReal} (h : IsR x) : IsR (Ideal.cos x) := by
  obtain ⟨r, rfl⟩ := h
  exact ⟨_, Ideal.cos_coe r⟩
theorem IsR.sin {x : EReal} (h : IsR x) : IsR (Ideal.sin x) := by
  obtain ⟨r, rfl⟩ := h
  exact ⟨_, Ideal.sin_coe r⟩

theorem IsR.rot {f : Fin 2048 → Fin 1024 → EReal} (hf : ∀ s d, IsR (f s d)) (P : Fin 2048 → BitVec 32) (h : Fin 16)
    (s : Fin 2048) (d : Fin 64) : IsR (rot f P h s d) := by
  unfold Layer.rot
  split
  · exact ((hf _ _).mul (IsR.ang _ _ _).cos).add ((hf _ _).neg.mul (IsR.ang _ _ _).sin)
  · exact ((hf _ _).mul (IsR.ang _ _ _).cos).add ((hf _ _).mul (IsR.ang _ _ _).sin)

/-- A gate is a nonnegative real. -/
theorem gat_nonneg (l : Fin 8 → EReal) (i j e : Fin 8) : ∃ r : ℝ, 0 ≤ r ∧ gat l i j e = (r : EReal) := by
  have h : 0 < Real.exp ((l j).toReal - (l i).toReal) := Real.exp_pos _
  unfold Layer.gat
  split
  · exact ⟨_, by positivity, rfl⟩
  · split
    · exact ⟨_, sub_nonneg.mpr (inv_le_one_of_one_le₀ (by linarith)), rfl⟩
    · exact ⟨0, le_rfl, rfl⟩

/-- The expert output summed under its gates. -/
def moe (x : Fin 1024 → EReal) (G : Fin 8 → EReal) (Wg Wu : Fin 8 → Fin 1024 → Fin 344 → EReal)
    (Wd : Fin 8 → Fin 344 → Fin 1024 → EReal) (d : Fin 1024) : EReal :=
  ∑ e, G e * ∑ f, ((∑ k, x k * Wg e k f) * Ideal.logistic (∑ k, x k * Wg e k f) * ∑ k, x k * Wu e k f) * Wd e f d

/-- Each gate, a nonnegative real, may be taken inside the down projection. -/
theorem moe_inside {x : Fin 1024 → EReal} {G : Fin 8 → EReal} {Wg Wu : Fin 8 → Fin 1024 → Fin 344 → EReal}
    {Wd : Fin 8 → Fin 344 → Fin 1024 → EReal} (hG : ∀ e, ∃ r : ℝ, 0 ≤ r ∧ G e = (r : EReal)) (d : Fin 1024) :
    moe x G Wg Wu Wd d = ∑ e, ∑ f, Wd e f d * (((∑ k, Wg e k f * x k) * Ideal.logistic (∑ k, Wg e k f * x k)
      * ∑ k, Wu e k f * x k) * G e) := by
  unfold moe
  refine Finset.sum_congr rfl fun e _ => ?_
  obtain ⟨g, hg, he⟩ := hG e
  rw [he, mul_comm, Cert.KernelIdeal.Val.sum_mul_real _ _ hg]
  refine Finset.sum_congr rfl fun f _ => ?_
  simp only [mul_comm (Wg e _ f), mul_comm (Wu e _ f)]
  rw [mul_comm (Wd e f d), mul_right_comm]

section
variable (X : Fin 2048 → Fin 1024 → EReal) (P : Fin 2048 → BitVec 32) (n1 n2 : Fin 1024 → EReal)
  (Wq Wk Wv Wo : Fin 1024 → Fin 1024 → EReal) (Gw : Fin 1024 → Fin 8 → EReal)

/-- The rotated queries or keys of the input. -/
def rq (W : Fin 1024 → Fin 1024 → EReal) : Fin 16 → Fin 2048 → Fin 64 → EReal := rot (lin (nrm X n1) W) P

/-- The values of the input, by head. -/
def vv (W : Fin 1024 → Fin 1024 → EReal) (h : Fin 16) (s : Fin 2048) (d : Fin 64) : EReal := lin (nrm X n1) W s (hd h d)

/-- The hidden state after attention. -/
def hh : Fin 2048 → Fin 1024 → EReal := hid X (att (rq X P n1 Wq) (rq X P n1 Wk) (vv X n1 Wv)) Wo

/-- Its normalisation. -/
def xx : Fin 2048 → Fin 1024 → EReal := nrm (hh X P n1 Wq Wk Wv Wo) n2

/-- The router's scores. -/
def ll : Fin 2048 → Fin 8 → EReal := lin (xx X P n1 n2 Wq Wk Wv Wo) Gw

/-- The layer's output at token `s` and feature `d`, the two chosen experts of the token at `i` and `j`. -/
def outv (Wg Wu : Fin 8 → Fin 1024 → Fin 344 → EReal) (Wd : Fin 8 → Fin 344 → Fin 1024 → EReal) (i j : Fin 8)
    (s : Fin 2048) (d : Fin 1024) : EReal :=
  hh X P n1 Wq Wk Wv Wo s d
    + moe (xx X P n1 n2 Wq Wk Wv Wo s) (gat (ll X P n1 n2 Wq Wk Wv Wo Gw s) i j) Wg Wu Wd d

variable {X P n1 n2 Wq Wk Wv Wo Gw}

theorem IsR.rq (h1 : ∀ d, IsR (n1 d)) {W : Fin 1024 → Fin 1024 → EReal} (hW : ∀ d e, IsR (W d e)) (h : Fin 16) (s : Fin 2048)
    (d : Fin 64) : IsR (rq X P n1 W h s d) := IsR.rot (IsR.lin (IsR.nrm h1) hW) P h s d
theorem IsR.ll (h2 : ∀ d, IsR (n2 d)) (hg : ∀ d e, IsR (Gw d e)) (s : Fin 2048) (e : Fin 8) :
    IsR (ll X P n1 n2 Wq Wk Wv Wo Gw s e) := IsR.lin (IsR.nrm h2) hg s e
end

end Cert.Layer
-- ==== Proof.Host.lean ====
/- What the program's host operations hand to its calls, entry by entry. -/
module

public import proofs.«01_k».proof.Proof.Gen.KernelIdeal.Frame
public import proofs.«01_k».proof.Proof.Spec
public import Idealize.ShloMosaic.Lib.Pointwise
public import Idealize.ShloMosaic.Lib.IdealHost
public import Idealize.ShloMosaic.Lib.WordCmp

@[expose] public section

set_option maxRecDepth 16384

noncomputable section
namespace Cert.KernelIdeal.Val

open Cert.KernelIdeal Cert.KernelIdeal.Gen Idealize.ShloMosaic Idealize.ShloMosaic.TcCoe Idealize.SL.Sem
open Cert.Layer

variable (m : (ℓ : Loc nD τ sig) → Buf (Elt Ideal) ℓ) (ρ : Dev nD → PrngReg) (c : Dev nD)

/-- The positions. -/
def kP (s : Fin 2048) : BitVec 32 := (m ((c : Thread nD τ).loc main_arg1) : IVec S1x2048 32) (ix2 0 s)

/-- The rotation pair of a feature. -/
def pr (e : Fin 1024) : Fin 32 := ⟨e.val % 32, Nat.mod_lt _ (by decide)⟩

/-- The buffers once the angles are there. -/
def Wa : Valuation τ sig (Elt Ideal) := StableHlo.after (List.take 22 hostOps0) (W0 m ρ c)

theorem W1_eq : W1 m ρ c = StableHlo.after (List.drop 22 hostOps0) (Wa m ρ c) := by
  unfold Wa
  rw [← StableHlo.after_append, List.take_append_drop]

theorem wa_v16 (k : Fin 32) (s : Fin 2048) : @Eq EReal ((Wa m ρ c (Proc.devRef .tc main_v16) : FVec Ideal S32x2048 .f32) (ix2 k s)) (ang (kP m c) s k) := by
  unfold Wa
  simp only [hostOps0, List.take_succ_cons, List.take_zero]
  after_results_simp
  pointwise
  exact mul_comm (G := EReal) _ _

/-- Two copies of a table, one under the other. -/
theorem cat_read (a : FVec Ideal S32x2048 .f32) (j : Fin 64) (s : Fin 2048) :
    @Eq EReal (concatenate S64x2048 0 [⟨S32x2048, a⟩, ⟨S32x2048, a⟩] concatenates_S32x2048_S32x2048_S64x2048_d0 (ix2 j s))
      (a (ix2 (⟨j.val % 32, Nat.mod_lt _ (by decide)⟩ : Fin 32) s)) := by
  have h1 : ∀ (x : Fin 32) (hx : x.val < 64), @Eq EReal (concatenate S64x2048 0 [⟨S32x2048, a⟩, ⟨S32x2048, a⟩] concatenates_S32x2048_S32x2048_S64x2048_d0 (ix2 (⟨x.val, hx⟩ : Fin 64) s)) (a (ix2 x s)) := by
    intro x hx
    pointwise
  have h2 : ∀ (x : Fin 32) (hx : 32 + x.val < 64), @Eq EReal (concatenate S64x2048 0 [⟨S32x2048, a⟩, ⟨S32x2048, a⟩] concatenates_S32x2048_S32x2048_S64x2048_d0 (ix2 (⟨32 + x.val, hx⟩ : Fin 64) s)) (a (ix2 x s)) := by
    intro x hx
    pointwise
  by_cases hj : j.val < 32
  · have e1 : j = ⟨(⟨j.val % 32, Nat.mod_lt _ (by decide)⟩ : Fin 32).val, by omega⟩ := Fin.ext (by show j.val = j.val % 32; omega)
    refine Eq.trans ?_ (h1 ⟨j.val % 32, Nat.mod_lt _ (by decide)⟩ (by omega))
    rw [← e1]
  · have e1 : j = ⟨32 + (⟨j.val % 32, Nat.mod_lt _ (by decide)⟩ : Fin 32).val, by omega⟩ := Fin.ext (by show j.val = 32 + j.val % 32; omega)
    refine Eq.trans ?_ (h2 ⟨j.val % 32, Nat.mod_lt _ (by decide)⟩ (by omega))
    rw [← e1]

/-- The cosine table. -/
theorem w1_v21 (e : Fin 1024) (s : Fin 2048) : @Eq EReal ((W1 m ρ c (Proc.devRef .tc main_v21) : FVec Ideal S1024x2048 .f32) (ix2 e s)) (Ideal.cos (ang (kP m c) s (pr e))) := by
  have h := wa_v16 m ρ c
  rw [W1_eq]
  generalize Wa m ρ c = U at h ⊢
  simp only [hostOps0, List.drop_succ_cons, List.drop_zero]
  after_results_simp
  have hC := cat_read (U (Proc.devRef .tc main_v16))
  generalize (concatenate S64x2048 0 [⟨S32x2048, U (Proc.devRef .tc main_v16)⟩, ⟨S32x2048, U (Proc.devRef .tc main_v16)⟩] concatenates_S32x2048_S32x2048_S64x2048_d0 : FVec Ideal S64x2048 .f32) = C at hC ⊢
  pointwise
  rw [hC, h]
  congr 2
  exact Fin.ext (by show e.val % 64 % 32 = e.val % 32; omega)

/-- The sine table. -/
theorem w1_v25 (e : Fin 1024) (s : Fin 2048) : @Eq EReal ((W1 m ρ c (Proc.devRef .tc main_v25) : FVec Ideal S1024x2048 .f32) (ix2 e s)) (Ideal.sin (ang (kP m c) s (pr e))) := by
  have h := wa_v16 m ρ c
  rw [W1_eq]
  generalize Wa m ρ c = U at h ⊢
  simp only [hostOps0, List.drop_succ_cons, List.drop_zero]
  after_results_simp
  have hC := cat_read (U (Proc.devRef .tc main_v16))
  generalize (concatenate S64x2048 0 [⟨S32x2048, U (Proc.devRef .tc main_v16)⟩, ⟨S32x2048, U (Proc.devRef .tc main_v16)⟩] concatenates_S32x2048_S32x2048_S64x2048_d0 : FVec Ideal S64x2048 .f32) = C at hC ⊢
  pointwise
  rw [hC, h]
  congr 2
  exact Fin.ext (by show e.val % 64 % 32 = e.val % 32; omega)

theorem w1_v26 (e : Fin 1024) : (W1 m ρ c (Proc.devRef .tc main_v26) : IVec S1024 32) (ix1 e) = BitVec.ofNat 32 e.val := by
  rw [W1_eq]
  generalize Wa m ρ c = U
  simp only [hostOps0, List.drop_succ_cons, List.drop_zero]
  after_results_simp
  pointwise

theorem w1_c : (W1 m ρ c (Proc.devRef .tc main_c) : IVec S_ 32) = constantI S_ 32 64#32 := by
  rw [W1_eq]
  generalize Wa m ρ c = U
  simp only [hostOps0, List.drop_succ_cons, List.drop_zero]
  after_results_simp

/-- A feature's place in its head, as a word. -/
theorem w2_v27 (e : Fin 1024) : (W2 m ρ c (Proc.devRef .tc main_v27) : IVec S1024 32) (ix1 e) = BitVec.ofNat 32 (e.val % 64) := by
  have h26 := w1_v26 m ρ c e
  have hc := w1_c m ρ c
  show (StableHlo.after hostOps0_1 (W1 m ρ c) (Proc.devRef .tc main_v27) : IVec S1024 32) (ix1 e) = _
  generalize W1 m ρ c = U at h26 hc ⊢
  simp only [hostOps0_1, StableHlo.TRef.binary, StableHlo.TRef.nullary, StableHlo.TRef.unary, StableHlo.TRef.ternary, StableHlo.TRef.toBuf, StableHlo.TRef.ofBuf, cast_eq]
  after_results_simp
  generalize (U (Proc.devRef .tc main_v26) : IVec S1024 32) = g at h26 ⊢
  generalize (U (Proc.devRef .tc main_c) : IVec S_ 32) = k at hc ⊢
  subst hc
  pointwise
  rw [h26]
  clear h26 g
  have hw : (id (constantI S_ 32 64#32) ix0 : BitVec 32) = 64#32 := rfl
  rw [hw]
  revert e
  decide +kernel

/-- The features in the lower half of their head. -/
theorem w3_v30 (e : Fin 1024) : (W3 m ρ c (Proc.devRef .tc main_v30) : IVec S1024x1 1) (ix2 e 0) = BitVec.ofBool (decide (e.val % 64 < 32)) := by
  have h27 := w2_v27 m ρ c e
  show (StableHlo.after hostOps0_2 (W2 m ρ c) (Proc.devRef .tc main_v30) : IVec S1024x1 1) (ix2 e 0) = _
  generalize W2 m ρ c = U at h27 ⊢
  simp only [hostOps0_2]
  after_results_simp
  pointwise
  rw [h27]
  clear h27 U
  show @Eq (BitVec 1) _ _
  revert e
  decide +kernel

/-- The negated sines. -/
theorem w3_v31 (e : Fin 1024) (s : Fin 2048) : @Eq EReal ((W3 m ρ c (Proc.devRef .tc main_v31) : FVec Ideal S1024x2048 .f32) (ix2 e s)) (-Ideal.sin (ang (kP m c) s (pr e))) := by
  have h25 : @Eq EReal ((W2 m ρ c (Proc.devRef .tc main_v25) : FVec Ideal S1024x2048 .f32) (ix2 e s)) (Ideal.sin (ang (kP m c) s (pr e))) := by
    rw [W2_of m ρ c main_v25 (by decide)]
    exact w1_v25 m ρ c e s
  show @Eq EReal ((StableHlo.after hostOps0_2 (W2 m ρ c) (Proc.devRef .tc main_v31) : FVec Ideal S1024x2048 .f32) (ix2 e s)) _
  generalize W2 m ρ c = U at h25 ⊢
  simp only [hostOps0_2]
  after_results_simp
  pointwise
  rw [h25]

theorem w3_cst5 : @Eq (FVec Ideal S_ .f32) (W3 m ρ c (Proc.devRef .tc main_cst_5)) (constant S_ .f32 0x00000000#32) := by
  show @Eq (FVec Ideal S_ .f32) (StableHlo.after hostOps0_2 (W2 m ρ c) (Proc.devRef .tc main_cst_5)) _
  generalize W2 m ρ c = U
  simp only [hostOps0_2]
  after_results_simp

/-- The table that meets the feature 32 places on. -/
theorem w4_v32 (e : Fin 1024) (s : Fin 2048) : @Eq EReal ((W4 m ρ c (Proc.devRef .tc main_v32) : FVec Ideal S1024x2048 .f32) (ix2 e s))
    (if e.val % 64 < 32 then -Ideal.sin (ang (kP m c) s (pr e)) else 0) := by
  have h30 := w3_v30 m ρ c e
  have h31 := w3_v31 m ρ c e s
  have hc := w3_cst5 m ρ c
  show @Eq EReal ((StableHlo.after hostOps0_3 (W3 m ρ c) (Proc.devRef .tc main_v32) : FVec Ideal S1024x2048 .f32) (ix2 e s)) _
  generalize W3 m ρ c = U at h30 h31 hc ⊢
  simp only [hostOps0_3, StableHlo.TRef.binary, StableHlo.TRef.nullary, StableHlo.TRef.unary, StableHlo.TRef.ternary, StableHlo.TRef.toBuf, StableHlo.TRef.ofBuf, cast_eq]
  after_results_simp
  generalize (U (Proc.devRef .tc main_v30) : IVec S1024x1 1) = g at h30 ⊢
  generalize (U (Proc.devRef .tc main_v31) : FVec Ideal S1024x2048 .f32) = f at h31 ⊢
  generalize (U (Proc.devRef .tc main_cst_5) : FVec Ideal S_ .f32) = k at hc ⊢
  subst hc
  pointwise
  rw [h30, h31]
  by_cases h : e.val % 64 < 32
  · simp [h, Scalar.select]
  · simp only [h, decide_false, if_false, Scalar.select]
    exact (if_neg (by decide)).trans (Ideal.ofBits_zero FTy.f32)

theorem w5_cst6 : @Eq (FVec Ideal S_ .f32) (W5 m ρ c (Proc.devRef .tc main_cst_6)) (constant S_ .f32 0x00000000#32) := by
  show @Eq (FVec Ideal S_ .f32) (StableHlo.after hostOps0_4 (W4 m ρ c) (Proc.devRef .tc main_cst_6)) _
  generalize W4 m ρ c = U
  simp only [hostOps0_4]
  after_results_simp

/-- The table that meets the feature 32 places back. -/
theorem w6_v33 (e : Fin 1024) (s : Fin 2048) : @Eq EReal ((W6 m ρ c (Proc.devRef .tc main_v33) : FVec Ideal S1024x2048 .f32) (ix2 e s))
    (if e.val % 64 < 32 then 0 else Ideal.sin (ang (kP m c) s (pr e))) := by
  have h30 : (W5 m ρ c (Proc.devRef .tc main_v30) : IVec S1024x1 1) (ix2 e 0) = BitVec.ofBool (decide (e.val % 64 < 32)) := by
    rw [W5_of m ρ c main_v30 (by decide), W4_of m ρ c main_v30 (by decide)]
    exact w3_v30 m ρ c e
  have h25 : @Eq EReal ((W5 m ρ c (Proc.devRef .tc main_v25) : FVec Ideal S1024x2048 .f32) (ix2 e s)) (Ideal.sin (ang (kP m c) s (pr e))) := by
    rw [W5_of m ρ c main_v25 (by decide), W4_of m ρ c main_v25 (by decide), W3_of m ρ c main_v25 (by decide), W2_of m ρ c main_v25 (by decide)]
    exact w1_v25 m ρ c e s
  have hc := w5_cst6 m ρ c
  show @Eq EReal ((StableHlo.after hostOps0_5 (W5 m ρ c) (Proc.devRef .tc main_v33) : FVec Ideal S1024x2048 .f32) (ix2 e s)) _
  generalize W5 m ρ c = U at h30 h25 hc ⊢
  simp only [hostOps0_5, StableHlo.TRef.binary, StableHlo.TRef.nullary, StableHlo.TRef.unary, StableHlo.TRef.ternary, StableHlo.TRef.toBuf, StableHlo.TRef.ofBuf, cast_eq]
  after_results_simp
  generalize (U (Proc.devRef .tc main_v30) : IVec S1024x1 1) = g at h30 ⊢
  generalize (U (Proc.devRef .tc main_v25) : FVec Ideal S1024x2048 .f32) = f at h25 ⊢
  generalize (U (Proc.devRef .tc main_cst_6) : FVec Ideal S_ .f32) = k at hc ⊢
  subst hc
  pointwise
  rw [h30, h25]
  by_cases h : e.val % 64 < 32
  · simp only [h, decide_true, if_true, Scalar.select]
    exact (if_pos (by decide)).trans (Ideal.ofBits_zero FTy.f32)
  · simp [h, Scalar.select]

/-! ## What the first call is handed -/

theorem v7_cos (e : Fin 1024) (s : Fin 2048) : @Eq EReal ((V7 m ρ c main_v21 : FVec Ideal S1024x2048 .f32) (ix2 e s)) (Ideal.cos (ang (kP m c) s (pr e))) := by
  show @Eq EReal ((W7 m ρ c (Proc.devRef .tc main_v21) : FVec Ideal S1024x2048 .f32) (ix2 e s)) _
  rw [W7_of m ρ c main_v21 (by decide), W6_of m ρ c main_v21 (by decide), W5_of m ρ c main_v21 (by decide), W4_of m ρ c main_v21 (by decide),
    W3_of m ρ c main_v21 (by decide), W2_of m ρ c main_v21 (by decide)]
  exact w1_v21 m ρ c e s

theorem v7_sa (e : Fin 1024) (s : Fin 2048) : @Eq EReal ((V7 m ρ c main_v32 : FVec Ideal S1024x2048 .f32) (ix2 e s))
    (if e.val % 64 < 32 then -Ideal.sin (ang (kP m c) s (pr e)) else 0) := by
  show @Eq EReal ((W7 m ρ c (Proc.devRef .tc main_v32) : FVec Ideal S1024x2048 .f32) (ix2 e s)) _
  rw [W7_of m ρ c main_v32 (by decide), W6_of m ρ c main_v32 (by decide), W5_of m ρ c main_v32 (by decide)]
  exact w4_v32 m ρ c e s

theorem v7_sb (e : Fin 1024) (s : Fin 2048) : @Eq EReal ((V7 m ρ c main_v33 : FVec Ideal S1024x2048 .f32) (ix2 e s))
    (if e.val % 64 < 32 then 0 else Ideal.sin (ang (kP m c) s (pr e))) := by
  show @Eq EReal ((W7 m ρ c (Proc.devRef .tc main_v33) : FVec Ideal S1024x2048 .f32) (ix2 e s)) _
  rw [W7_of m ρ c main_v33 (by decide)]
  exact w6_v33 m ρ c e s

/-- The input, entry by entry. -/
def kX (s : Fin 2048) (d : Fin 1024) : EReal := (m ((c : Thread nD τ).loc main_arg0) : FVec Ideal S1x2048x1024 .f32) (ix3 0 s d)
def k1 (d : Fin 1024) : EReal := (m ((c : Thread nD τ).loc main_arg2) : FVec Ideal S1024 .f32) (ix1 d)
def k2 (d : Fin 1024) : EReal := (m ((c : Thread nD τ).loc main_arg3) : FVec Ideal S1024 .f32) (ix1 d)
def kQ (d e : Fin 1024) : EReal := (m ((c : Thread nD τ).loc main_arg4) : FVec Ideal S1024x1024 .f32) (ix2 d e)
def kK (d e : Fin 1024) : EReal := (m ((c : Thread nD τ).loc main_arg5) : FVec Ideal S1024x1024 .f32) (ix2 d e)
def kV (d e : Fin 1024) : EReal := (m ((c : Thread nD τ).loc main_arg6) : FVec Ideal S1024x1024 .f32) (ix2 d e)
def kO (d e : Fin 1024) : EReal := (m ((c : Thread nD τ).loc main_arg7) : FVec Ideal S1024x1024 .f32) (ix2 d e)
def kGt (d : Fin 1024) (e : Fin 8) : EReal := (m ((c : Thread nD τ).loc main_arg8) : FVec Ideal S1024x8 .f32) (ix2 d e)
def kWg (e : Fin 8) (d : Fin 1024) (f : Fin 344) : EReal := (m ((c : Thread nD τ).loc main_arg9) : FVec Ideal S8x1024x344 .f32) (ix3 e d f)
def kWu (e : Fin 8) (d : Fin 1024) (f : Fin 344) : EReal := (m ((c : Thread nD τ).loc main_arg10) : FVec Ideal S8x1024x344 .f32) (ix3 e d f)
def kWd (e : Fin 8) (f : Fin 344) (d : Fin 1024) : EReal := (m ((c : Thread nD τ).loc main_arg11) : FVec Ideal S8x344x1024 .f32) (ix3 e f d)

theorem w1_v0 (s : Fin 2048) (d : Fin 1024) : @Eq EReal ((W1 m ρ c (Proc.devRef .tc main_v0) : FVec Ideal S2048x1024 .f32) (ix2 s d)) (kX m c s d) := by
  have h0 : @Eq EReal ((W0 m ρ c (Proc.devRef .tc main_arg0) : FVec Ideal S1x2048x1024 .f32) (ix3 0 s d)) (kX m c s d) := rfl
  have e1 : (StableHlo.after hostOps0 (W0 m ρ c) (Proc.devRef .tc main_v0)) = StableHlo.after (List.drop 1 hostOps0) (StableHlo.after (List.take 1 hostOps0) (W0 m ρ c)) (Proc.devRef .tc main_v0) := by
    rw [← StableHlo.after_append, List.take_append_drop]
  show @Eq EReal ((StableHlo.after hostOps0 (W0 m ρ c) (Proc.devRef .tc main_v0) : FVec Ideal S2048x1024 .f32) (ix2 s d)) _
  rw [e1]
  generalize W0 m ρ c = U at h0 ⊢
  have e2 : @Eq EReal ((StableHlo.after (List.take 1 hostOps0) U (Proc.devRef .tc main_v0) : FVec Ideal S2048x1024 .f32) (ix2 s d)) (kX m c s d) := by
    simp only [hostOps0, List.take_succ_cons, List.take_zero]
    after_results_simp
    pointwise
    exact h0
  generalize StableHlo.after (List.take 1 hostOps0) U = U' at e2 ⊢
  simp only [hostOps0, List.drop_succ_cons, List.drop_zero]
  after_results_simp
  exact e2

theorem v7_x (s : Fin 2048) (d : Fin 1024) : @Eq EReal ((V7 m ρ c main_v0 : FVec Ideal S2048x1024 .f32) (ix2 s d)) (kX m c s d) := by
  show @Eq EReal ((W7 m ρ c (Proc.devRef .tc main_v0) : FVec Ideal S2048x1024 .f32) (ix2 s d)) _
  rw [W7_of m ρ c main_v0 (by decide), W6_of m ρ c main_v0 (by decide), W5_of m ρ c main_v0 (by decide), W4_of m ρ c main_v0 (by decide),
    W3_of m ρ c main_v0 (by decide), W2_of m ρ c main_v0 (by decide)]
  exact w1_v0 m ρ c s d

theorem v7_w1 (d : Fin 1024) : @Eq EReal ((V7 m ρ c main_v37 : FVec Ideal S1024x1 .f32) (ix2 d 0)) (k1 m c d) := by
  have h : W6 m ρ c (Proc.devRef .tc main_arg2) = m ((c : Thread nD τ).loc main_arg2) := W6_args m ρ c main_arg2 (by decide)
  show @Eq EReal ((StableHlo.after hostOps0_6 (W6 m ρ c) (Proc.devRef .tc main_v37) : FVec Ideal S1024x1 .f32) (ix2 d 0)) _
  generalize W6 m ρ c = U at h ⊢
  simp only [hostOps0_6]
  after_results_simp
  rw [h]
  pointwise
  rfl

theorem v7_wq (d e : Fin 1024) : @Eq EReal ((V7 m ρ c main_v34 : FVec Ideal S1024x1024 .bf16) (ix2 d e)) (kQ m c d e) := by
  have h : W6 m ρ c (Proc.devRef .tc main_arg4) = m ((c : Thread nD τ).loc main_arg4) := W6_args m ρ c main_arg4 (by decide)
  show @Eq EReal ((StableHlo.after hostOps0_6 (W6 m ρ c) (Proc.devRef .tc main_v34) : FVec Ideal S1024x1024 .bf16) (ix2 d e)) _
  generalize W6 m ρ c = U at h ⊢
  simp only [hostOps0_6]
  after_results_simp
  rw [h]
  pointwise
  rfl

theorem v7_wk (d e : Fin 1024) : @Eq EReal ((V7 m ρ c main_v35 : FVec Ideal S1024x1024 .bf16) (ix2 d e)) (kK m c d e) := by
  have h : W6 m ρ c (Proc.devRef .tc main_arg5) = m ((c : Thread nD τ).loc main_arg5) := W6_args m ρ c main_arg5 (by decide)
  show @Eq EReal ((StableHlo.after hostOps0_6 (W6 m ρ c) (Proc.devRef .tc main_v35) : FVec Ideal S1024x1024 .bf16) (ix2 d e)) _
  generalize W6 m ρ c = U at h ⊢
  simp only [hostOps0_6]
  after_results_simp
  rw [h]
  pointwise
  rfl

theorem v7_wv (d e : Fin 1024) : @Eq EReal ((V7 m ρ c main_v36 : FVec Ideal S1024x1024 .bf16) (ix2 d e)) (kV m c d e) := by
  have h : W6 m ρ c (Proc.devRef .tc main_arg6) = m ((c : Thread nD τ).loc main_arg6) := W6_args m ρ c main_arg6 (by decide)
  show @Eq EReal ((StableHlo.after hostOps0_6 (W6 m ρ c) (Proc.devRef .tc main_v36) : FVec Ideal S1024x1024 .bf16) (ix2 d e)) _
  generalize W6 m ρ c = U at h ⊢
  simp only [hostOps0_6]
  after_results_simp
  rw [h]
  pointwise
  rfl

end Cert.KernelIdeal.Val
-- ==== Proof.Rope.lean ====
/- The first call's arrays in the layer's terms. -/
module

public import proofs.«01_k».proof.Proof.Region0
public import proofs.«01_k».proof.Proof.Host

@[expose] public section

noncomputable section
namespace Cert.KernelIdeal.Val

open Cert.KernelIdeal Cert.KernelIdeal.Gen Idealize.ShloMosaic Idealize.ShloMosaic.TcCoe Idealize.SL.Sem
open Cert.Layer

section
variable {x : FVec Ideal S2048x1024 .f32} {w : FVec Ideal S1024x1 .f32} {W : FVec Ideal S1024x1024 .bf16}
  {co sa sb : FVec Ideal S1024x2048 .f32} {X : Fin 2048 → Fin 1024 → EReal} {n1 : Fin 1024 → EReal}
  {M : Fin 1024 → Fin 1024 → EReal} {P : Fin 2048 → BitVec 32}
  (hx : ∀ s d, @Eq EReal (x (ix2 s d)) (X s d)) (hw : ∀ d, @Eq EReal (w (ix2 d 0)) (n1 d))
  (hW : ∀ d e, @Eq EReal (W (ix2 d e)) (M d e))
include hx hw

/-- The call normalises its input. -/
theorem xnE_eq (s : Fin 2048) (d : Fin 1024) : xnE x w s d = nrm X n1 s d := by
  unfold xnE nrm
  simp only [hx, hw]

include hW

/-- Its projections are the layer's. -/
theorem projE_eq (s : Fin 2048) (e : Fin 1024) : projE x w W s e = lin (nrm X n1) M s e := by
  unfold projE lin
  refine Finset.sum_congr rfl fun d _ => ?_
  rw [xnE_eq hx hw, hW]
  exact mul_comm (G := EReal) _ _

variable (hco : ∀ e s, @Eq EReal (co (ix2 e s)) (Ideal.cos (ang P s (pr e))))
  (hsa : ∀ e s, @Eq EReal (sa (ix2 e s)) (if e.val % 64 < 32 then -Ideal.sin (ang P s (pr e)) else 0))
  (hsb : ∀ e s, @Eq EReal (sb (ix2 e s)) (if e.val % 64 < 32 then 0 else Ideal.sin (ang P s (pr e))))
include hco hsa hsb

/-- The two shifted products with the masked tables are the rotary embedding. -/
theorem ropeE_eq (h : Fin 16) (s : Fin 2048) (d : Fin 64) : ropeE x w W co sa sb s (hd h d) = rq X P n1 M h s d := by
  have hm : (hd h d).val % 64 = d.val := by
    show (h.val * 64 + d.val) % 64 = d.val
    omega
  unfold ropeE rq rot
  simp only [projE_eq hx hw hW, hco, hsa, hsb, hm]
  by_cases hlt : d.val < 32
  · have e1 : (⟨((hd h d).val + 1024 - 992) % 1024, Nat.mod_lt _ (by decide)⟩ : Fin 1024) = Cert.Layer.hd h ⟨32 + d.val, by omega⟩ := by
      apply Fin.ext
      show (h.val * 64 + d.val + 1024 - 992) % 1024 = h.val * 64 + (32 + d.val)
      omega
    have e2 : pr (hd h d) = ⟨d.val, hlt⟩ := by
      apply Fin.ext
      show (h.val * 64 + d.val) % 32 = d.val
      omega
    rw [if_pos hlt, if_pos hlt, dif_pos hlt, e1, e2, mul_zero, add_zero, mul_neg, neg_mul]
    rfl
  · have e1 : (⟨((hd h d).val + 1024 - 32) % 1024, Nat.mod_lt _ (by decide)⟩ : Fin 1024) = Cert.Layer.hd h ⟨d.val - 32, by omega⟩ := by
      apply Fin.ext
      show (h.val * 64 + d.val + 1024 - 32) % 1024 = h.val * 64 + (d.val - 32)
      omega
    have e2 : pr (hd h d) = ⟨d.val - 32, by omega⟩ := by
      apply Fin.ext
      show (h.val * 64 + d.val) % 32 = d.val - 32
      omega
    rw [if_neg hlt, if_neg hlt, dif_neg hlt, e1, e2, mul_zero, add_zero]
    rfl

/-- The stored queries. -/
theorem qG_eq (h : Fin 16) (d : Fin 64) (s : Fin 2048) :
    @Eq EReal (qG x w W co sa sb (ix3 h d s)) (rq X P n1 M h s d * scl) :=
  congrArg (fun z : EReal => z * scl) (ropeE_eq hx hw hW hco hsa hsb h s d)

/-- The stored keys. -/
theorem kG_eq (h : Fin 16) (d : Fin 64) (s : Fin 2048) : @Eq EReal (kG x w W co sa sb (ix3 h d s)) (rq X P n1 M h s d) :=
  ropeE_eq hx hw hW hco hsa hsb h s d

omit hco hsa hsb
/-- The stored values. -/
theorem vG_eq (h : Fin 16) (d : Fin 64) (s : Fin 2048) : @Eq EReal (vG x w W (ix3 h d s)) (vv X n1 M h s d) :=
  projE_eq hx hw hW s (hd h d)
end

end Cert.KernelIdeal.Val
-- ==== Proof.Region1Steps.lean ====
/- The second call's arithmetic on one block of keys, read at an index. -/
module

public import proofs.«01_k».proof.Proof.Gen.KernelIdeal.Frame
public import proofs.«01_k».proof.Proof.Online
public import Idealize.ShloMosaic.Lib.Pipeline.ValueKit
public import Idealize.ShloMosaic.Lib.Pointwise

@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section
variable (q : FVec Ideal S64x512 .bf16) (k v : FVec Ideal S1x64x512 .bf16) (r : IVec S512x512 32)
  (m l : FVec Ideal S1x512 .f32) (a : FVec Ideal S64x512 .f32) (i : Fin 512) (d : Fin 64)
  (S Y : Fin 512 → EReal) (M L A : EReal)

/-- The score of key row `j` of a block starting at `o`, for the query of lane `i`. -/
def scB (o : BitVec 32) (j : Fin 512) : EReal :=
  Scalar.select (IntOp.cmpi .sle (IntOp.addi o (BitVec.ofNat 32 j.val)) (r (ix2 j i)))
    (∑ x : Fin 64, (k (ix3 0 x j) : EReal) * q (ix2 x i)) (⊥ : EReal)

theorem p2 (j) : k1_pay2 (F := Ideal) q r k (ix2 j i) = scB q k r i 0#32 j := by
  pointwise [k1_pay2]
  rfl
theorem p8 (j) : k1_pay8 (F := Ideal) q r k (ix2 j i) = scB q k r i 512#32 j := by
  pointwise [k1_pay8]
  rfl
theorem p14 (j) : k1_pay14 (F := Ideal) q r k (ix2 j i) = scB q k r i 1024#32 j := by
  pointwise [k1_pay14]
  rfl
theorem p20 (j) : k1_pay20 (F := Ideal) q r k (ix2 j i) = scB q k r i 1536#32 j := by
  pointwise [k1_pay20]
  rfl

theorem p3 (hM : m (ix2 0 i) = M) (hS : ∀ x, scB q k r i 0#32 x = S x) : k1_pay3 (F := Ideal) q r k m (ix2 0 i) = mS M S := by
  pointwise [k1_pay3]
  simp only [p2, hM, hS]
  rfl
theorem p9 (hM : m (ix2 0 i) = M) (hS : ∀ x, scB q k r i 512#32 x = S x) : k1_pay9 (F := Ideal) q r k m (ix2 0 i) = mS M S := by
  pointwise [k1_pay9]
  simp only [p8, hM, hS]
  rfl
theorem p15 (hM : m (ix2 0 i) = M) (hS : ∀ x, scB q k r i 1024#32 x = S x) : k1_pay15 (F := Ideal) q r k m (ix2 0 i) = mS M S := by
  pointwise [k1_pay15]
  simp only [p14, hM, hS]
  rfl
theorem p21 (hM : m (ix2 0 i) = M) (hS : ∀ x, scB q k r i 1536#32 x = S x) : k1_pay21 (F := Ideal) q r k m (ix2 0 i) = mS M S := by
  pointwise [k1_pay21]
  simp only [p20, hM, hS]
  rfl

theorem p6 (hM : m (ix2 0 i) = M) (hL : l (ix2 0 i) = L) (hS : ∀ x, scB q k r i 0#32 x = S x) :
    k1_pay6 (F := Ideal) q r k m l (ix2 0 i) = lS M L S := by
  pointwise [k1_pay6, k1_pay5, k1_pay4]
  simp only [p2, p3 q k r m i S M hM hS, hM, hL, hS]
  rfl
theorem p12 (hM : m (ix2 0 i) = M) (hL : l (ix2 0 i) = L) (hS : ∀ x, scB q k r i 512#32 x = S x) :
    k1_pay12 (F := Ideal) q r k m l (ix2 0 i) = lS M L S := by
  pointwise [k1_pay12, k1_pay11, k1_pay10]
  simp only [p8, p9 q k r m i S M hM hS, hM, hL, hS]
  rfl
theorem p18 (hM : m (ix2 0 i) = M) (hL : l (ix2 0 i) = L) (hS : ∀ x, scB q k r i 1024#32 x = S x) :
    k1_pay18 (F := Ideal) q r k m l (ix2 0 i) = lS M L S := by
  pointwise [k1_pay18, k1_pay17, k1_pay16]
  simp only [p14, p15 q k r m i S M hM hS, hM, hL, hS]
  rfl
theorem p24 (hM : m (ix2 0 i) = M) (hL : l (ix2 0 i) = L) (hS : ∀ x, scB q k r i 1536#32 x = S x) :
    k1_pay24 (F := Ideal) q r k m l (ix2 0 i) = lS M L S := by
  pointwise [k1_pay24, k1_pay23, k1_pay22]
  simp only [p20, p21 q k r m i S M hM hS, hM, hL, hS]
  rfl

theorem p7 (hM : m (ix2 0 i) = M) (hA : a (ix2 d i) = A) (hS : ∀ x, scB q k r i 0#32 x = S x) (hY : ∀ x, v (ix3 0 d x) = Y x) :
    k1_pay7 (F := Ideal) q r k m v a (ix2 d i) = aS M A S Y := by
  pointwise [k1_pay7, k1_pay5, k1_pay4]
  simp only [p2, p3 q k r m i S M hM hS, hM, hA, hS, hY]
  rfl
theorem p13 (hM : m (ix2 0 i) = M) (hA : a (ix2 d i) = A) (hS : ∀ x, scB q k r i 512#32 x = S x) (hY : ∀ x, v (ix3 0 d x) = Y x) :
    k1_pay13 (F := Ideal) q r k m v a (ix2 d i) = aS M A S Y := by
  pointwise [k1_pay13, k1_pay11, k1_pay10]
  simp only [p8, p9 q k r m i S M hM hS, hM, hA, hS, hY]
  rfl
theorem p19 (hM : m (ix2 0 i) = M) (hA : a (ix2 d i) = A) (hS : ∀ x, scB q k r i 1024#32 x = S x) (hY : ∀ x, v (ix3 0 d x) = Y x) :
    k1_pay19 (F := Ideal) q r k m v a (ix2 d i) = aS M A S Y := by
  pointwise [k1_pay19, k1_pay17, k1_pay16]
  simp only [p14, p15 q k r m i S M hM hS, hM, hA, hS, hY]
  rfl
theorem p25 (hM : m (ix2 0 i) = M) (hA : a (ix2 d i) = A) (hS : ∀ x, scB q k r i 1536#32 x = S x) (hY : ∀ x, v (ix3 0 d x) = Y x) :
    k1_pay25 (F := Ideal) q r k m v a (ix2 d i) = aS M A S Y := by
  pointwise [k1_pay25, k1_pay23, k1_pay22]
  simp only [p20, p21 q k r m i S M hM hS, hM, hA, hS, hY]
  rfl

theorem p1 : k1_pay1 (F := Ideal) a l (ix3 0 d i) = Ideal.div (a (ix2 d i)) (l (ix2 0 i)) := by
  pointwise [k1_pay1]
  try rfl
theorem p26 (z) : k1_pay26 (F := Ideal) z (ix2 d i) = z (ix3 0 d i) := by
  pointwise [k1_pay26]
  try rfl
theorem p27 : k1_pay27 (F := Ideal) (ix2 0 i) = (⊥ : EReal) := by
  pointwise [k1_pay27]
  try rfl
theorem p28 : k1_pay28 (F := Ideal) (ix2 0 i) = (0 : EReal) := by
  pointwise [k1_pay28]
  try rfl
theorem p29 : k1_pay29 (F := Ideal) (ix2 d i) = (0 : EReal) := by
  pointwise [k1_pay29]
  try rfl
theorem p30 (g) (j : Fin 512) : k1_pay30 g (ix2 j i) = IntOp.addi (Scalar.muli (BitVec.ofNat 32 (g 1).val) 512#32) (BitVec.ofNat 32 i.val) := by
  pointwise [k1_pay30]
  try rfl
theorem p31 : k1_pay31 (F := Ideal) m = m := by
  pointwise [k1_pay31]
  try rfl
theorem p32 : k1_pay32 (F := Ideal) m = m := by
  pointwise [k1_pay32]
  try rfl
theorem p33 : k1_pay33 (F := Ideal) m = m := by
  pointwise [k1_pay33]
  try rfl
end

end Cert.KernelIdeal.Val
-- ==== Proof.Region1.lean ====
/- The second call (causal attention, keys taken in blocks of 512) as a function of its operand arrays. -/
module

public import proofs.«01_k».proof.Proof.Gen.KernelIdeal.Frame
public import proofs.«01_k».proof.Proof.Region1Steps
public import Idealize.ShloMosaic.Lib.Pipeline.ValueKit
public import Idealize.ShloMosaic.Lib.Pointwise
public import Idealize.ShloMosaic.Lib.WordCmp

@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The score of the key of block `n`, row `x`, for the query at position `I` of head `h`; bottom after the query. -/
def scG (q k : FVec Ideal S16x64x2048 .bf16) (h : Fin 16) (I : Fin 2048) (n : ℕ) (x : Fin 512) : EReal :=
  if n * 512 + x.val ≤ I.val then
    ∑ d : Fin 64, k (ix3 h d ⟨(n * 512 + x.val) % 2048, by omega⟩) * q (ix3 h d I) else ⊥

/-- The value row of block `n`, row `x`. -/
def vlG (v : FVec Ideal S16x64x2048 .bf16) (h : Fin 16) (d : Fin 64) (n : ℕ) (x : Fin 512) : EReal :=
  v (ix3 h d ⟨(n * 512 + x.val) % 2048, by omega⟩)

/-- The attention output of head `h`, feature `d`, position `I`: the running numerator over the running denominator,
    after the blocks up to the query's own. -/
def attE (q k v : FVec Ideal S16x64x2048 .bf16) (h : Fin 16) (d : Fin 64) (I : Fin 2048) : EReal :=
  Ideal.div (aAt (scG q k h I) (vlG v h d) (I.val / 512 + 1)) (lAt (scG q k h I) (I.val / 512 + 1))

def attG (q k v : FVec Ideal S16x64x2048 .bf16) : FVec Ideal S16x64x2048 .bf16 := fun j => attE q k v (j 0) (j 1) (j 2)

theorem idx1 : ∀ t : Fin cfg1.N, win1_0.index t = ![t.val / 4, 0, t.val % 4] ∧ win1_1.index t = ![t.val / 4, 0, 0]
    ∧ win1_2.index t = ![t.val / 4, 0, 0] ∧ win1_3.index t = ![t.val / 4, 0, t.val % 4] := (by decide +kernel : ∀ t : Fin grid1.N, _)

theorem crd1 : ∀ t : Fin cfg1.N, (grid1.coords t 1).val = t.val % 4 := (by decide +kernel : ∀ t : Fin grid1.N, _)

/-- The head of grid point `t`. -/
def hed (t : Fin cfg1.N) : Fin 16 := ⟨t.val / 4, by
  have : t.val < 64 := t.isLt
  omega⟩

/-- The query position of lane `i` at grid point `t`. -/
def qpos (t : Fin cfg1.N) (i : Fin 512) : Fin 2048 := ⟨t.val % 4 * 512 + i.val, by omega⟩

theorem b1_0 (c : Dev nD) (t : Fin cfg1.N) (d : Fin 64) (i : Fin 512) :
    (iblk1 V c 0 t : FVec Ideal S1x64x512 .bf16) (ix3 0 d i) = (V c main_v38_0 : FVec Ideal S16x64x2048 .bf16) (ix3 (hed t) d (qpos t i)) := by
  blk_ext [iblk1, idx1 t, hed, qpos]
theorem b1_1 (c : Dev nD) (t : Fin cfg1.N) (d : Fin 64) (i : Fin 2048) :
    (iblk1 V c 1 t : FVec Ideal S1x64x2048 .bf16) (ix3 0 d i) = (V c main_v38_1 : FVec Ideal S16x64x2048 .bf16) (ix3 (hed t) d i) := by
  blk_ext [iblk1, idx1 t, hed]
theorem b1_2 (c : Dev nD) (t : Fin cfg1.N) (d : Fin 64) (i : Fin 2048) :
    (iblk1 V c 2 t : FVec Ideal S1x64x2048 .bf16) (ix3 0 d i) = (V c main_v38_2 : FVec Ideal S16x64x2048 .bf16) (ix3 (hed t) d i) := by
  blk_ext [iblk1, idx1 t, hed]

section
variable (z : Vec Ideal S1x64x2048 .bf16) (d : Fin 64) (x : Fin 512)
theorem ld0_1 : View.ld z (Rect.unit ![0, 0, 0] ![1, 64, 512] inb_S1x64x2048_S1x64x512_0_0_0) (ix3 0 d x)
    = z (ix3 0 d ⟨(0 * 512 + x.val) % 2048, by omega⟩) := by
  refine View.ld_unit_apply_of z _ _ _ _ _ fun a => ?_
  fin_cases a
  · rfl
  · exact (Nat.zero_add _).symm
  · show (0 * 512 + x.val) % 2048 = 0 + x.val
    omega
theorem ld1_1 : View.ld z (Rect.unit ![0, 0, 512] ![1, 64, 512] inb_S1x64x2048_S1x64x512_0_0_512) (ix3 0 d x)
    = z (ix3 0 d ⟨(1 * 512 + x.val) % 2048, by omega⟩) := by
  refine View.ld_unit_apply_of z _ _ _ _ _ fun a => ?_
  fin_cases a
  · rfl
  · exact (Nat.zero_add _).symm
  · show (1 * 512 + x.val) % 2048 = 512 + x.val
    omega
theorem ld2_1 : View.ld z (Rect.unit ![0, 0, 1024] ![1, 64, 512] inb_S1x64x2048_S1x64x512_0_0_1024) (ix3 0 d x)
    = z (ix3 0 d ⟨(2 * 512 + x.val) % 2048, by omega⟩) := by
  refine View.ld_unit_apply_of z _ _ _ _ _ fun a => ?_
  fin_cases a
  · rfl
  · exact (Nat.zero_add _).symm
  · show (2 * 512 + x.val) % 2048 = 1024 + x.val
    omega
theorem ld3_1 : View.ld z (Rect.unit ![0, 0, 1536] ![1, 64, 512] inb_S1x64x2048_S1x64x512_0_0_1536) (ix3 0 d x)
    = z (ix3 0 d ⟨(3 * 512 + x.val) % 2048, by omega⟩) := by
  refine View.ld_unit_apply_of z _ _ _ _ _ fun a => ?_
  fin_cases a
  · rfl
  · exact (Nat.zero_add _).symm
  · show (3 * 512 + x.val) % 2048 = 1536 + x.val
    omega
end

/-- The kernel's causal test on 32-bit words is the comparison of the positions. -/
theorem causal (n a b i : ℕ) (hn : n ≤ 2048) (ha : a ≤ 512) (hb : b ≤ 3) (hi : i ≤ 512) :
    IntOp.cmpi .sle (IntOp.addi (BitVec.ofNat 32 n) (BitVec.ofNat 32 a))
      (IntOp.addi (Scalar.muli (BitVec.ofNat 32 b) 512#32) (BitVec.ofNat 32 i)) = BitVec.ofBool (decide (n + a ≤ b * 512 + i)) := by
  have h1 : IntOp.addi (BitVec.ofNat 32 n) (BitVec.ofNat 32 a) = BitVec.ofNat 32 (n + a) := (BitVec.ofNat_add ..).symm
  have h2 : IntOp.addi (Scalar.muli (BitVec.ofNat 32 b) 512#32) (BitVec.ofNat 32 i) = BitVec.ofNat 32 (b * 512 + i) := by
    rw [BitVec.ofNat_add, BitVec.ofNat_mul]
    rfl
  rw [h1, h2, WordCmp.cmpi_sle_ofNat (by norm_num; omega) (by norm_num; omega)]

theorem select_ofBool (p : Prop) [Decidable p] (a b : EReal) : Scalar.select (BitVec.ofBool (decide p)) a b = if p then a else b := by
  by_cases h : p <;> simp [h, Scalar.select]

theorem kl0_1 (c : Dev nD) (t : Fin cfg1.N) (d : Fin 64) (x : Fin 512) :
    View.ld (iblk1 V c 1 t : Vec Ideal S1x64x2048 .bf16) (Rect.unit ![0, 0, 0] ![1, 64, 512] inb_S1x64x2048_S1x64x512_0_0_0) (ix3 0 d x)
      = (V c main_v38_1 : FVec Ideal S16x64x2048 .bf16) (ix3 (hed t) d ⟨(0 * 512 + x.val) % 2048, by omega⟩) :=
  (ld0_1 _ _ _).trans (b1_1 V c t d _)
theorem sc0_1 (c : Dev nD) (t : Fin cfg1.N) (i x : Fin 512) :
    scB (k1_pay26 (F := Ideal) (iblk1 V c 0 t)) (View.ld (iblk1 V c 1 t : Vec Ideal S1x64x2048 .bf16) (Rect.unit ![0, 0, 0] ![1, 64, 512] inb_S1x64x2048_S1x64x512_0_0_0))
      (k1_pay30 (grid1.coords t)) i 0#32 x = scG (V c main_v38_0) (V c main_v38_1) (hed t) (qpos t i) 0 x := by
  unfold scB scG
  rw [p30, crd1]
  refine Eq.trans (congrArg (fun z => Scalar.select z _ _) (causal 0 x.val (t.val % 4) i.val (by omega) (by omega) (by omega) (by omega))) ?_
  rw [select_ofBool]
  refine if_congr Iff.rfl (Finset.sum_congr rfl fun d _ => ?_) rfl
  rw [p26, b1_0]
  exact congrArg (· * _) (kl0_1 V c t d x)
theorem vl0_1 (c : Dev nD) (t : Fin cfg1.N) (d : Fin 64) (x : Fin 512) :
    View.ld (iblk1 V c 2 t : Vec Ideal S1x64x2048 .bf16) (Rect.unit ![0, 0, 0] ![1, 64, 512] inb_S1x64x2048_S1x64x512_0_0_0) (ix3 0 d x)
      = vlG (V c main_v38_2) (hed t) d 0 x := by
  rw [ld0_1, b1_2]
  rfl

theorem kl1_1 (c : Dev nD) (t : Fin cfg1.N) (d : Fin 64) (x : Fin 512) :
    View.ld (iblk1 V c 1 t : Vec Ideal S1x64x2048 .bf16) (Rect.unit ![0, 0, 512] ![1, 64, 512] inb_S1x64x2048_S1x64x512_0_0_512) (ix3 0 d x)
      = (V c main_v38_1 : FVec Ideal S16x64x2048 .bf16) (ix3 (hed t) d ⟨(1 * 512 + x.val) % 2048, by omega⟩) :=
  (ld1_1 _ _ _).trans (b1_1 V c t d _)
theorem sc1_1 (c : Dev nD) (t : Fin cfg1.N) (i x : Fin 512) :
    scB (k1_pay26 (F := Ideal) (iblk1 V c 0 t)) (View.ld (iblk1 V c 1 t : Vec Ideal S1x64x2048 .bf16) (Rect.unit ![0, 0, 512] ![1, 64, 512] inb_S1x64x2048_S1x64x512_0_0_512))
      (k1_pay30 (grid1.coords t)) i 512#32 x = scG (V c main_v38_0) (V c main_v38_1) (hed t) (qpos t i) 1 x := by
  unfold scB scG
  rw [p30, crd1]
  refine Eq.trans (congrArg (fun z => Scalar.select z _ _) (causal 512 x.val (t.val % 4) i.val (by omega) (by omega) (by omega) (by omega))) ?_
  rw [select_ofBool]
  refine if_congr Iff.rfl (Finset.sum_congr rfl fun d _ => ?_) rfl
  rw [p26, b1_0]
  exact congrArg (· * _) (kl1_1 V c t d x)
theorem vl1_1 (c : Dev nD) (t : Fin cfg1.N) (d : Fin 64) (x : Fin 512) :
    View.ld (iblk1 V c 2 t : Vec Ideal S1x64x2048 .bf16) (Rect.unit ![0, 0, 512] ![1, 64, 512] inb_S1x64x2048_S1x64x512_0_0_512) (ix3 0 d x)
      = vlG (V c main_v38_2) (hed t) d 1 x := by
  rw [ld1_1, b1_2]
  rfl

theorem kl2_1 (c : Dev nD) (t : Fin cfg1.N) (d : Fin 64) (x : Fin 512) :
    View.ld (iblk1 V c 1 t : Vec Ideal S1x64x2048 .bf16) (Rect.unit ![0, 0, 1024] ![1, 64, 512] inb_S1x64x2048_S1x64x512_0_0_1024) (ix3 0 d x)
      = (V c main_v38_1 : FVec Ideal S16x64x2048 .bf16) (ix3 (hed t) d ⟨(2 * 512 + x.val) % 2048, by omega⟩) :=
  (ld2_1 _ _ _).trans (b1_1 V c t d _)
theorem sc2_1 (c : Dev nD) (t : Fin cfg1.N) (i x : Fin 512) :
    scB (k1_pay26 (F := Ideal) (iblk1 V c 0 t)) (View.ld (iblk1 V c 1 t : Vec Ideal S1x64x2048 .bf16) (Rect.unit ![0, 0, 1024] ![1, 64, 512] inb_S1x64x2048_S1x64x512_0_0_1024))
      (k1_pay30 (grid1.coords t)) i 1024#32 x = scG (V c main_v38_0) (V c main_v38_1) (hed t) (qpos t i) 2 x := by
  unfold scB scG
  rw [p30, crd1]
  refine Eq.trans (congrArg (fun z => Scalar.select z _ _) (causal 1024 x.val (t.val % 4) i.val (by omega) (by omega) (by omega) (by omega))) ?_
  rw [select_ofBool]
  refine if_congr Iff.rfl (Finset.sum_congr rfl fun d _ => ?_) rfl
  rw [p26, b1_0]
  exact congrArg (· * _) (kl2_1 V c t d x)
theorem vl2_1 (c : Dev nD) (t : Fin cfg1.N) (d : Fin 64) (x : Fin 512) :
    View.ld (iblk1 V c 2 t : Vec Ideal S1x64x2048 .bf16) (Rect.unit ![0, 0, 1024] ![1, 64, 512] inb_S1x64x2048_S1x64x512_0_0_1024) (ix3 0 d x)
      = vlG (V c main_v38_2) (hed t) d 2 x := by
  rw [ld2_1, b1_2]
  rfl

theorem kl3_1 (c : Dev nD) (t : Fin cfg1.N) (d : Fin 64) (x : Fin 512) :
    View.ld (iblk1 V c 1 t : Vec Ideal S1x64x2048 .bf16) (Rect.unit ![0, 0, 1536] ![1, 64, 512] inb_S1x64x2048_S1x64x512_0_0_1536) (ix3 0 d x)
      = (V c main_v38_1 : FVec Ideal S16x64x2048 .bf16) (ix3 (hed t) d ⟨(3 * 512 + x.val) % 2048, by omega⟩) :=
  (ld3_1 _ _ _).trans (b1_1 V c t d _)
theorem sc3_1 (c : Dev nD) (t : Fin cfg1.N) (i x : Fin 512) :
    scB (k1_pay26 (F := Ideal) (iblk1 V c 0 t)) (View.ld (iblk1 V c 1 t : Vec Ideal S1x64x2048 .bf16) (Rect.unit ![0, 0, 1536] ![1, 64, 512] inb_S1x64x2048_S1x64x512_0_0_1536))
      (k1_pay30 (grid1.coords t)) i 1536#32 x = scG (V c main_v38_0) (V c main_v38_1) (hed t) (qpos t i) 3 x := by
  unfold scB scG
  rw [p30, crd1]
  refine Eq.trans (congrArg (fun z => Scalar.select z _ _) (causal 1536 x.val (t.val % 4) i.val (by omega) (by omega) (by omega) (by omega))) ?_
  rw [select_ofBool]
  refine if_congr Iff.rfl (Finset.sum_congr rfl fun d _ => ?_) rfl
  rw [p26, b1_0]
  exact congrArg (· * _) (kl3_1 V c t d x)
theorem vl3_1 (c : Dev nD) (t : Fin cfg1.N) (d : Fin 64) (x : Fin 512) :
    View.ld (iblk1 V c 2 t : Vec Ideal S1x64x2048 .bf16) (Rect.unit ![0, 0, 1536] ![1, 64, 512] inb_S1x64x2048_S1x64x512_0_0_1536) (ix3 0 d x)
      = vlG (V c main_v38_2) (hed t) d 3 x := by
  rw [ld3_1, b1_2]
  rfl

set_option maxHeartbeats 1000000 in
/-- What a grid point stores: the attention output at its head and its query positions. -/
theorem out_att (c : Dev nD) (t : Fin cfg1.N) (d : Fin 64) (i : Fin 512) :
    (outsAt1 V c t.val t.isLt : FVec Ideal S1x64x512 .bf16) (ix3 0 d i)
      = attE (V c main_v38_0) (V c main_v38_1) (V c main_v38_2) (hed t) d (qpos t i) := by
  have hq : (qpos t i).val / 512 = t.val % 4 := by
    show (t.val % 4 * 512 + i.val) / 512 = _
    omega
  unfold attE
  rw [hq]
  have h4 : t.val % 4 = 0 ∨ t.val % 4 = 1 ∨ t.val % 4 = 2 ∨ t.val % 4 = 3 := by omega
  rcases h4 with h | h | h | h
  · rw [outsAt1_A V c t (by omega) (by omega) (by omega)]
    frame_out
    rw [p1, h]
    exact congrArg₂ Ideal.div (p7 _ _ _ _ _ _ _ _ _ _ _ _ (p27 i) (p29 i d) (sc0_1 V c t i) (vl0_1 V c t d))
      (p6 _ _ _ _ _ _ _ _ _ (p27 i) (p28 i) (sc0_1 V c t i))
  · rw [outsAt1_B V c t (by omega) (by omega) (by omega)]
    frame_out
    rw [p31]
    rw [p1, h]
    exact congrArg₂ Ideal.div (p13 _ _ _ _ _ _ _ _ _ _ _ _ (p3 _ _ _ _ _ _ _ (p27 i) (sc0_1 V c t i)) (p7 _ _ _ _ _ _ _ _ _ _ _ _ (p27 i) (p29 i d) (sc0_1 V c t i) (vl0_1 V c t d)) (sc1_1 V c t i) (vl1_1 V c t d))
      (p12 _ _ _ _ _ _ _ _ _ (p3 _ _ _ _ _ _ _ (p27 i) (sc0_1 V c t i)) (p6 _ _ _ _ _ _ _ _ _ (p27 i) (p28 i) (sc0_1 V c t i)) (sc1_1 V c t i))
  · rw [outsAt1_C V c t (by omega) (by omega) (by omega)]
    frame_out
    rw [p31, p32]
    have m1 := p3 _ _ _ _ _ _ _ (p27 i) (sc0_1 V c t i)
    have m2 := p9 _ _ _ _ _ _ _ m1 (sc1_1 V c t i)
    have l1 := p6 _ _ _ _ _ _ _ _ _ (p27 i) (p28 i) (sc0_1 V c t i)
    have l2 := p12 _ _ _ _ _ _ _ _ _ m1 l1 (sc1_1 V c t i)
    have a1 := p7 _ _ _ _ _ _ _ _ _ _ _ _ (p27 i) (p29 i d) (sc0_1 V c t i) (vl0_1 V c t d)
    have a2 := p13 _ _ _ _ _ _ _ _ _ _ _ _ m1 a1 (sc1_1 V c t i) (vl1_1 V c t d)
    rw [p1, h]
    exact congrArg₂ Ideal.div (p19 _ _ _ _ _ _ _ _ _ _ _ _ m2 a2 (sc2_1 V c t i) (vl2_1 V c t d))
      (p18 _ _ _ _ _ _ _ _ _ m2 l2 (sc2_1 V c t i))
  · rw [outsAt1_D V c t (by omega) (by omega) (by omega)]
    frame_out
    rw [p31, p32, p33]
    have m1 := p3 _ _ _ _ _ _ _ (p27 i) (sc0_1 V c t i)
    have m2 := p9 _ _ _ _ _ _ _ m1 (sc1_1 V c t i)
    have m3 := p15 _ _ _ _ _ _ _ m2 (sc2_1 V c t i)
    have l1 := p6 _ _ _ _ _ _ _ _ _ (p27 i) (p28 i) (sc0_1 V c t i)
    have l2 := p12 _ _ _ _ _ _ _ _ _ m1 l1 (sc1_1 V c t i)
    have l3 := p18 _ _ _ _ _ _ _ _ _ m2 l2 (sc2_1 V c t i)
    have a1 := p7 _ _ _ _ _ _ _ _ _ _ _ _ (p27 i) (p29 i d) (sc0_1 V c t i) (vl0_1 V c t d)
    have a2 := p13 _ _ _ _ _ _ _ _ _ _ _ _ m1 a1 (sc1_1 V c t i) (vl1_1 V c t d)
    have a3 := p19 _ _ _ _ _ _ _ _ _ _ _ _ m2 a2 (sc2_1 V c t i) (vl2_1 V c t d)
    rw [p1, h]
    exact congrArg₂ Ideal.div (p25 _ _ _ _ _ _ _ _ _ _ _ _ m3 a3 (sc3_1 V c t i) (vl3_1 V c t d))
      (p24 _ _ _ _ _ _ _ _ _ m3 l3 (sc3_1 V c t i))

theorem emb_att (t : Fin cfg1.N) (d : Fin 64) (i : Fin 512) :
    (((View.whole main_v39).slice (win1_3.rect t)).emb (ix3 0 d i) : S16x64x2048.Idx) = ix3 (hed t) d (qpos t i) := by
  blk_ext [idx1 t, hed, qpos]

/-- The second call's result. -/
theorem att_arr (c : Dev nD) : (dat1 V c).arrAt 3 cfg1.N = attG (V c main_v38_0) (V c main_v38_1) (V c main_v38_2) := by
  refine (dat1 V c).arrAt_eq_of_covers 3 _ (by decide +kernel) fun t _ y => ?_
  blk_simp
  rw [after1_3]
  idx_vars y
  obtain rfl : y0 = 0 := Subsingleton.elim _ _
  refine (out_att V c t y1 y2).trans (Eq.trans ?_ (congrArg _ (emb_att t y1 y2)).symm)
  rfl

end Cert.KernelIdeal.Val
-- ==== Proof.Att.lean ====
/- The second call's running softmax in the layer's terms. -/
module

public import proofs.«01_k».proof.Proof.Region0
public import proofs.«01_k».proof.Proof.Region1
public import proofs.«01_k».proof.Proof.Spec

@[expose] public section

noncomputable section
namespace Cert.KernelIdeal.Val

open Cert.KernelIdeal Cert.KernelIdeal.Gen Idealize.ShloMosaic Idealize.ShloMosaic.TcCoe Idealize.SL.Sem
open Cert.Layer

/-- The named scale is an eighth over the logarithm of two. -/
theorem scl_val : scl = (((1 / 8) * (Real.log 2)⁻¹ : ℝ) : EReal) := rfl

/-- Two to a scaled score is the exponential of an eighth of the score. -/
theorem two_pow (r : ℝ) : (2 : ℝ) ^ (r * ((1 / 8) * (Real.log 2)⁻¹)) = Real.exp (r / 8) := by
  have hl : Real.log 2 ≠ 0 := (Real.log_pos (by norm_num)).ne'
  rw [Real.rpow_def_of_pos (by norm_num)]
  congr 1
  field_simp

section
variable {q k v : FVec Ideal S16x64x2048 .bf16} {Q K V : Fin 16 → Fin 2048 → Fin 64 → EReal}
  (hq : ∀ h d s, @Eq EReal (q (ix3 h d s)) (Q h s d * scl)) (hk : ∀ h d s, @Eq EReal (k (ix3 h d s)) (K h s d))
  (hv : ∀ h d s, @Eq EReal (v (ix3 h d s)) (V h s d))
  (rQ : ∀ h s d, IsR (Q h s d)) (rK : ∀ h s d, IsR (K h s d))

/-- The real score of the key `j` for the query `i`. -/
def dt (Q K : Fin 16 → Fin 2048 → Fin 64 → EReal) (h : Fin 16) (i j : Fin 2048) : ℝ :=
  ∑ d, (Q h i d).toReal * (K h j d).toReal

include hq hk rQ rK in
theorem scG_eq (h : Fin 16) (I : Fin 2048) :
    scG q k h I = msc (fun n x => n * 512 + x.val ≤ I.val)
      (fun n x => dt Q K h I ⟨(n * 512 + x.val) % 2048, by omega⟩ * ((1 / 8) * (Real.log 2)⁻¹)) := by
  funext n x
  unfold scG msc
  split
  · dsimp only
    generalize (⟨(n * 512 + x.val) % 2048, by omega⟩ : Fin 2048) = J
    have hterm : ∀ d : Fin 64, @Eq EReal (k (ix3 h d J) * q (ix3 h d I))
        ((((Q h I d).toReal * (K h J d).toReal) * ((1 / 8) * (Real.log 2)⁻¹) : ℝ) : EReal) := by
      intro d
      have e1 := (rQ h I d).eq
      have e2 := (rK h J d).eq
      have e3 := hq h d I
      have e4 := hk h d J
      rw [scl_val, e1, ← EReal.coe_mul] at e3
      rw [e2] at e4
      refine (congrArg₂ (fun a b : EReal => a * b) e4 e3).trans ?_
      rw [← EReal.coe_mul]
      refine congrArg _ ?_
      ring
    refine (Finset.sum_congr rfl fun d _ => hterm d).trans ?_
    rw [coe_sum]
    refine congrArg (fun r : ℝ => (r : EReal)) ?_
    unfold dt
    exact (Finset.sum_mul _ _ _).symm
  · rfl

include hv in
theorem vlG_eq (h : Fin 16) (d : Fin 64) :
    vlG v h d = fun n x => V h ⟨(n * 512 + x.val) % 2048, by omega⟩ d := by
  funext n x
  exact hv h d _

/-- A sum over the blocks up to the query's own of terms vanishing after the query is the sum over all positions. -/
theorem sum_upto {M : Type} [AddCommMonoid M] (F : Fin 2048 → M) (I : Fin 2048) :
    (∑ n ∈ Finset.range (I.val / 512 + 1), ∑ x : Fin 512,
      (if n * 512 + x.val ≤ I.val then F ⟨(n * 512 + x.val) % 2048, by omega⟩ else 0))
      = ∑ j, if j ≤ I then F j else 0 := by
  have h1 := sum_blocks (fun j => if j ≤ I.val then F ⟨j % 2048, by omega⟩ else 0) (I.val / 512 + 1)
  refine h1.trans ?_
  have hI := I.isLt
  have hsub : Finset.range ((I.val / 512 + 1) * 512) ⊆ Finset.range 2048 := by
    intro a ha
    rw [Finset.mem_range] at ha ⊢
    omega
  rw [Finset.sum_subset hsub fun a _ ha => if_neg (by rw [Finset.mem_range] at ha; omega),
    ← Fin.sum_univ_eq_sum_range (fun j => if j ≤ I.val then F ⟨j % 2048, by omega⟩ else 0) 2048]
  refine Finset.sum_congr rfl fun j _ => ?_
  have e : (⟨j.val % 2048, by omega⟩ : Fin 2048) = j := Fin.ext (Nat.mod_eq_of_lt j.isLt)
  rw [e]
  rfl

include hq hk hv rQ rK in
/-- The call's quotient is the softmax-weighted mean of the values. -/
theorem attE_eq (h : Fin 16) (d : Fin 64) (I : Fin 2048) : attE q k v h d I = att Q K V h I d := by
  unfold attE
  rw [scG_eq hq hk rQ rK h I, vlG_eq hv h d, online_div _ _ _ ⟨0, by simp⟩]
  unfold att
  have hw : ∀ n (x : Fin 512), wt (fun n x => n * 512 + x.val ≤ I.val)
      (fun n x => dt Q K h I ⟨(n * 512 + x.val) % 2048, by omega⟩ * ((1 / 8) * (Real.log 2)⁻¹)) n x
      = if n * 512 + x.val ≤ I.val then (fun j => Real.exp (dt Q K h I j / 8)) ⟨(n * 512 + x.val) % 2048, by omega⟩ else 0 := by
    intro n x
    unfold wt
    split
    · exact two_pow _
    · rfl
  have e1 := sum_upto (fun j => Real.exp (dt Q K h I j / 8)) I
  have hs : (∑ n ∈ Finset.range (I.val / 512 + 1), ∑ x, wt (fun n x => n * 512 + x.val ≤ I.val)
      (fun n x => dt Q K h I ⟨(n * 512 + x.val) % 2048, by omega⟩ * ((1 / 8) * (Real.log 2)⁻¹)) n x) = ∑ j, ew Q K h I j :=
    (Finset.sum_congr rfl fun n _ => Finset.sum_congr rfl fun x _ => hw n x).trans e1
  rw [hs]
  generalize (∑ j, ew Q K h I j) = D
  have e2 := sum_upto (fun j => ((Real.exp (dt Q K h I j / 8) / D : ℝ) : EReal) * V h j d) I
  refine Eq.trans ?_ (e2.trans ?_)
  · refine Finset.sum_congr rfl fun n _ => Finset.sum_congr rfl fun x _ => ?_
    rw [hw n x]
    split
    · exact mul_comm (G := EReal) _ _
    · rw [zero_div, EReal.coe_zero, mul_zero]
  · refine Finset.sum_congr rfl fun j _ => ?_
    unfold ew dt
    split
    · rfl
    · rw [zero_div, EReal.coe_zero, zero_mul]
end

end Cert.KernelIdeal.Val
-- ==== Proof.Region2.lean ====
/- The third call (output projection, residual, second normalisation, router scores) as functions of its operand arrays. -/
module

public import proofs.«01_k».proof.Proof.Gen.KernelIdeal.Frame
public import Idealize.ShloMosaic.Lib.Pipeline.ValueKit
public import Idealize.ShloMosaic.Lib.Pointwise

@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The hidden state after attention, at token `s` and feature `d`. -/
def hoE (a : FVec Ideal S16x64x2048 .bf16) (x : FVec Ideal S2048x1024 .f32) (Wo : FVec Ideal S1024x1024 .bf16)
    (s : Fin 2048) (d : Fin 1024) : EReal :=
  ∑ e : Fin 1024, Wo (ix2 e d) * a (ix3 ⟨e.val / 64, by omega⟩ ⟨e.val % 64, by omega⟩ s) + x (ix2 s d)

/-- Its normalisation. -/
def xn2E (a : FVec Ideal S16x64x2048 .bf16) (x : FVec Ideal S2048x1024 .f32) (Wo : FVec Ideal S1024x1024 .bf16)
    (w : FVec Ideal S1024x1 .f32) (s : Fin 2048) (d : Fin 1024) : EReal :=
  hoE a x Wo s d * Ideal.rsqrt (Ideal.div (∑ e, hoE a x Wo s e * hoE a x Wo s e) (Ideal.ofBits FTy.f32 1149239296#32)
    + Ideal.ofBits FTy.f32 897988541#32) * w (ix2 d 0)

def hoG (a : FVec Ideal S16x64x2048 .bf16) (x : FVec Ideal S2048x1024 .f32) (Wo : FVec Ideal S1024x1024 .bf16) :
    FVec Ideal S1024x2048 .f32 := fun j => hoE a x Wo (j 1) (j 0)

def xn2G (a : FVec Ideal S16x64x2048 .bf16) (x : FVec Ideal S2048x1024 .f32) (Wo : FVec Ideal S1024x1024 .bf16)
    (w : FVec Ideal S1024x1 .f32) : FVec Ideal S1024x2048 .bf16 := fun j => xn2E a x Wo w (j 1) (j 0)

def lgG (a : FVec Ideal S16x64x2048 .bf16) (x : FVec Ideal S2048x1024 .f32) (Wo : FVec Ideal S1024x1024 .bf16)
    (w : FVec Ideal S1024x1 .f32) (g : FVec Ideal S1024x8 .f32) : FVec Ideal S8x2048 .f32 :=
  fun j => ∑ d : Fin 1024, g (ix2 d (j 0)) * xn2E a x Wo w (j 1) d

theorem idx2 : ∀ t : Fin cfg2.N, win2_0.index t = ![0, 0, t.val] ∧ win2_1.index t = ![t.val, 0] ∧ win2_2.index t = ![0, 0]
    ∧ win2_3.index t = ![0, 0] ∧ win2_4.index t = ![0, 0] ∧ win2_5.index t = ![0, t.val] ∧ win2_6.index t = ![0, t.val]
    ∧ win2_7.index t = ![0, t.val] := (by decide +kernel : ∀ t : Fin grid2.N, _)

/-- Token `s` of tile `t`. -/
def tok2 (t : Fin cfg2.N) (s : Fin 256) : Fin 2048 := ⟨t.val * 256 + s.val, by
  have : t.val < 8 := t.isLt
  omega⟩

theorem b2_0 (c : Dev nD) (t : Fin cfg2.N) (h : Fin 16) (d : Fin 64) (s : Fin 256) :
    (iblk2 V c 0 t : FVec Ideal S16x64x256 .bf16) (ix3 h d s) = (V c main_v39 : FVec Ideal S16x64x2048 .bf16) (ix3 h d (tok2 t s)) := by
  blk_ext [iblk2, idx2 t, tok2]
theorem b2_1 (c : Dev nD) (t : Fin cfg2.N) (s : Fin 256) (d : Fin 1024) :
    (iblk2 V c 1 t : FVec Ideal S256x1024 .f32) (ix2 s d) = (V c main_v0 : FVec Ideal S2048x1024 .f32) (ix2 (tok2 t s) d) := by
  blk_ext [iblk2, idx2 t, tok2]
theorem b2_2 (c : Dev nD) (t : Fin cfg2.N) : (iblk2 V c 2 t : FVec Ideal S1024x1024 .bf16) = V c main_v40 := by
  blk_ext! [iblk2, idx2 t]
theorem b2_3 (c : Dev nD) (t : Fin cfg2.N) : (iblk2 V c 3 t : FVec Ideal S1024x1 .f32) = V c main_v41 := by
  blk_ext! [iblk2, idx2 t]
theorem b2_4 (c : Dev nD) (t : Fin cfg2.N) : (iblk2 V c 4 t : FVec Ideal S1024x8 .f32) = V c main_arg8 := by
  blk_ext! [iblk2, idx2 t]

section
variable (x0 : FVec Ideal S16x64x256 .bf16) (x1 : FVec Ideal S256x1024 .f32) (x2 : FVec Ideal S1024x1024 .bf16)
  (x3 : FVec Ideal S1024x1 .f32) (x4 : FVec Ideal S1024x8 .f32) (s : Fin 256) (d : Fin 1024) (g : Fin 8)

/-- The block of the hidden state. -/
def hoB (d : Fin 1024) : EReal :=
  ∑ e : Fin 1024, x2 (ix2 e d) * x0 (ix3 ⟨e.val / 64, by omega⟩ ⟨e.val % 64, by omega⟩ s) + x1 (ix2 s d)

/-- The block of its normalisation. -/
def xn2B (d : Fin 1024) : EReal :=
  hoB x0 x1 x2 s d * Ideal.rsqrt (Ideal.div (∑ e, hoB x0 x1 x2 s e * hoB x0 x1 x2 s e) (Ideal.ofBits FTy.f32 1149239296#32)
    + Ideal.ofBits FTy.f32 897988541#32) * x3 (ix2 d 0)

theorem out_ho : out2_5 (F := Ideal) x0 x1 x2 x3 x4 (ix2 d s) = hoB x0 x1 x2 s d := by
  frame_out
  pointwise [k2_pay1]
  rfl

theorem out_xn2 : out2_6 (F := Ideal) x0 x1 x2 x3 x4 (ix2 d s) = xn2B x0 x1 x2 x3 s d := by
  frame_out
  pointwise [k2_pay3, k2_pay2, k2_pay1]
  rfl

theorem out_lg : out2_7 (F := Ideal) x0 x1 x2 x3 x4 (ix2 g s) = ∑ d : Fin 1024, x4 (ix2 d g) * xn2B x0 x1 x2 x3 s d := by
  frame_out
  pointwise [k2_pay4, k2_pay3, k2_pay2, k2_pay1]
  rfl
end

theorem emb_ho (t : Fin cfg2.N) (a : Fin 1024) (s : Fin 256) :
    (((View.whole main_v42_0).slice (win2_5.rect t)).emb (ix2 a s) : S1024x2048.Idx) = ix2 a (tok2 t s) := by
  blk_ext [idx2 t, tok2]

theorem emb_xn2 (t : Fin cfg2.N) (a : Fin 1024) (s : Fin 256) :
    (((View.whole main_v42_1).slice (win2_6.rect t)).emb (ix2 a s) : S1024x2048.Idx) = ix2 a (tok2 t s) := by
  blk_ext [idx2 t, tok2]

theorem emb_lg (t : Fin cfg2.N) (a : Fin 8) (s : Fin 256) :
    (((View.whole main_v42_2).slice (win2_7.rect t)).emb (ix2 a s) : S8x2048.Idx) = ix2 a (tok2 t s) := by
  blk_ext [idx2 t, tok2]

theorem ho_arr (c : Dev nD) : (dat2 V c).arrAt 5 cfg2.N = hoG (V c main_v39) (V c main_v0) (V c main_v40) := by
  refine (dat2 V c).arrAt_eq_of_covers 5 _ (by decide +kernel) fun t _ y => ?_
  blk_simp
  rw [after2_5]
  idx_vars y
  refine (out_ho _ _ _ _ _ _ _).trans (Eq.trans ?_ (congrArg _ (emb_ho t y0 y1)).symm)
  simp only [hoB, xn2B, b2_0, b2_1, b2_2, b2_3, b2_4]
  rfl

theorem xn2_arr (c : Dev nD) : (dat2 V c).arrAt 6 cfg2.N = xn2G (V c main_v39) (V c main_v0) (V c main_v40) (V c main_v41) := by
  refine (dat2 V c).arrAt_eq_of_covers 6 _ (by decide +kernel) fun t _ y => ?_
  blk_simp
  rw [after2_6]
  idx_vars y
  refine (out_xn2 _ _ _ _ _ _ _).trans (Eq.trans ?_ (congrArg _ (emb_xn2 t y0 y1)).symm)
  simp only [hoB, xn2B, b2_0, b2_1, b2_2, b2_3, b2_4]
  rfl

theorem lg_arr (c : Dev nD) : (dat2 V c).arrAt 7 cfg2.N = lgG (V c main_v39) (V c main_v0) (V c main_v40) (V c main_v41) (V c main_arg8) := by
  refine (dat2 V c).arrAt_eq_of_covers 7 _ (by decide +kernel) fun t _ y => ?_
  blk_simp
  rw [after2_7]
  idx_vars y
  refine (out_lg _ _ _ _ _ _ _).trans (Eq.trans ?_ (congrArg _ (emb_lg t y0 y1)).symm)
  simp only [hoB, xn2B, b2_0, b2_1, b2_2, b2_3, b2_4]
  rfl

end Cert.KernelIdeal.Val
-- ==== Proof.Region3.lean ====
/- The fourth call (choice of two experts, gated expert products, residual) as functions of its operand arrays. -/
module

public import proofs.«01_k».proof.Proof.Gen.KernelIdeal.Frame
public import Idealize.ShloMosaic.Lib.Pipeline.ValueKit
public import Idealize.ShloMosaic.Lib.Pointwise

@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The named mask. -/
def msk : EReal := (Named.named (F := Ideal) (φ := .f32) κ "mask" 0xCE6E6B28#32 : Ideal .f32)

/-- The greatest of eight scores. -/
def m1C (l : Fin 8 → EReal) : EReal := Finset.fold max (Ideal.ofBits FTy.f32 4286578688#32) l Finset.univ
/-- The first expert that has it. -/
def i1C (l : Fin 8 → EReal) : BitVec 32 :=
  Finset.fold IntOp.minsi (2147483647#32) (fun x : Fin 8 => if l x = m1C l then BitVec.ofNat 32 x.val else 999#32) Finset.univ
/-- The scores without that expert's. -/
def l2C (l : Fin 8 → EReal) (x : Fin 8) : EReal :=
  Scalar.select (IntOp.cmpi CmpIPredicate.eq (BitVec.ofNat 32 x.val) (i1C l)) msk (l x)
/-- The greatest of those. -/
def m2C (l : Fin 8 → EReal) : EReal := Finset.fold max (Ideal.ofBits FTy.f32 4286578688#32) (l2C l) Finset.univ
/-- The first expert that has it. -/
def i2C (l : Fin 8 → EReal) : BitVec 32 :=
  Finset.fold IntOp.minsi (2147483647#32) (fun x : Fin 8 => if l2C l x = m2C l then BitVec.ofNat 32 x.val else 999#32) Finset.univ
/-- The weight of the first expert. -/
def s1C (l : Fin 8 → EReal) : EReal := Ideal.div 1 (1 + Ideal.exp (m2C l - m1C l))
/-- The weight of the second. -/
def s2C (l : Fin 8 → EReal) : EReal := 1 - s1C l
/-- The weight of expert `e`. -/
def gateC (l : Fin 8 → EReal) (e : BitVec 32) : EReal :=
  Scalar.select (IntOp.cmpi CmpIPredicate.eq (i1C l) e) (s1C l) 0 + Scalar.select (IntOp.cmpi CmpIPredicate.eq (i2C l) e) (s2C l) 0

section
variable (x2 : FVec Ideal S8x256 .f32) (s : Fin 256)

theorem p3_3 : k3_pay3 (F := Ideal) x2 (ix2 0 s) = m1C (fun e => x2 (ix2 e s)) := by
  pointwise [k3_pay3, k3_pay2]; rfl
theorem p3_4 : k3_pay4 (F := Ideal) x2 (ix2 0 s) = i1C (fun e => x2 (ix2 e s)) := by
  pointwise [k3_pay4, k3_pay2]; rw [p3_3]; rfl
theorem p3_6 : k3_pay6 (F := Ideal) x2 (ix2 0 s) = m2C (fun e => x2 (ix2 e s)) := by
  pointwise [k3_pay6, k3_pay5, k3_pay2]; rw [p3_4]; rfl
theorem p3_7 : k3_pay7 (F := Ideal) x2 (ix2 0 s) = i2C (fun e => x2 (ix2 e s)) := by
  pointwise [k3_pay7, k3_pay5, k3_pay2]; rw [p3_4, p3_6]; rfl
theorem p3_8 : k3_pay8 (F := Ideal) x2 (ix2 0 s) = s1C (fun e => x2 (ix2 e s)) := by
  pointwise [k3_pay8]; rw [p3_3, p3_6]; rfl
theorem p3_9 : k3_pay9 (F := Ideal) x2 (ix2 0 s) = s2C (fun e => x2 (ix2 e s)) := by
  pointwise [k3_pay9]; rw [p3_8]; rfl

variable (x0 : FVec Ideal S1024x256 .bf16) (x1 : FVec Ideal S1024x256 .f32) (x3 x4 : FVec Ideal S8x1024x344 .bf16)
  (x5 : FVec Ideal S8x344x1024 .bf16) (d : Fin 1024)

/-- Expert `e`'s part of the block of the result. -/
def termB (e : Fin 8) : EReal :=
  ∑ f : Fin 344, x5 (ix3 e f d) * (((∑ k, x3 (ix3 e k f) * x0 (ix2 k s)) * Ideal.logistic (∑ k, x3 (ix3 e k f) * x0 (ix2 k s))
    * ∑ k, x4 (ix3 e k f) * x0 (ix2 k s)) * gateC (fun e => x2 (ix2 e s)) (BitVec.ofNat 32 e.val))

theorem ld3 (x2 : Vec Ideal S8x256 .f32) : @Eq (Vec Ideal S8x256 .f32) (View.ld x2 r3_0) x2 :=
  View.ld_unit_zero (by funext a; fin_cases a <;> rfl) _ _

theorem out_moe : out3_6 (F := Ideal) x0 x1 x2 x3 x4 x5 (ix2 s d)
    = x1 (ix2 d s) + ∑ e : Fin 8, termB x2 s x0 x3 x4 x5 d e := by
  frame_out
  pointwise [k3_pay1, k3_pay10, k3_pay11, k3_pay12, k3_pay13, k3_pay14, k3_pay15, k3_pay16, k3_pay17, k3_pay18, k3_pay19,
    k3_pay20, k3_pay21, k3_pay22, k3_pay23, k3_pay24, k3_pay25, k3_pay26, k3_pay27, k3_pay28, k3_pay29, k3_pay30, k3_pay31,
    k3_pay32, k3_pay33]
  simp only [ld3, p3_4, p3_7, p3_8, p3_9, Fin.sum_univ_eight, termB, gateC]
  rfl
end

/-- The result at token `s` and feature `d`, from the normalised hidden state, the hidden state, the scores and the weights. -/
def moeG (xn : FVec Ideal S1024x2048 .bf16) (ho : FVec Ideal S1024x2048 .f32) (lg : FVec Ideal S8x2048 .f32)
    (wg wu : FVec Ideal S8x1024x344 .bf16) (wd : FVec Ideal S8x344x1024 .bf16) : FVec Ideal S2048x1024 .f32 := fun j =>
  ho (ix2 (j 1) (j 0)) + ∑ e : Fin 8, ∑ f : Fin 344, wd (ix3 e f (j 1)) * (((∑ k, wg (ix3 e k f) * xn (ix2 k (j 0)))
    * Ideal.logistic (∑ k, wg (ix3 e k f) * xn (ix2 k (j 0)))
    * ∑ k, wu (ix3 e k f) * xn (ix2 k (j 0))) * gateC (fun e => lg (ix2 e (j 0))) (BitVec.ofNat 32 e.val))

theorem idx3 : ∀ t : Fin cfg3.N, win3_0.index t = ![0, t.val] ∧ win3_1.index t = ![0, t.val] ∧ win3_2.index t = ![0, t.val]
    ∧ win3_3.index t = ![0, 0, 0] ∧ win3_4.index t = ![0, 0, 0] ∧ win3_5.index t = ![0, 0, 0] ∧ win3_6.index t = ![t.val, 0] :=
  (by decide +kernel : ∀ t : Fin grid3.N, _)

/-- Token `s` of tile `t`. -/
def tok3 (t : Fin cfg3.N) (s : Fin 256) : Fin 2048 := ⟨t.val * 256 + s.val, by
  have : t.val < 8 := t.isLt
  omega⟩

theorem b3_0 (c : Dev nD) (t : Fin cfg3.N) (d : Fin 1024) (s : Fin 256) :
    (iblk3 V c 0 t : FVec Ideal S1024x256 .bf16) (ix2 d s) = (V c main_v42_1 : FVec Ideal S1024x2048 .bf16) (ix2 d (tok3 t s)) := by
  blk_ext [iblk3, idx3 t, tok3]
theorem b3_1 (c : Dev nD) (t : Fin cfg3.N) (d : Fin 1024) (s : Fin 256) :
    (iblk3 V c 1 t : FVec Ideal S1024x256 .f32) (ix2 d s) = (V c main_v42_0 : FVec Ideal S1024x2048 .f32) (ix2 d (tok3 t s)) := by
  blk_ext [iblk3, idx3 t, tok3]
theorem b3_2 (c : Dev nD) (t : Fin cfg3.N) (d : Fin 8) (s : Fin 256) :
    (iblk3 V c 2 t : FVec Ideal S8x256 .f32) (ix2 d s) = (V c main_v42_2 : FVec Ideal S8x2048 .f32) (ix2 d (tok3 t s)) := by
  blk_ext [iblk3, idx3 t, tok3]
theorem b3_3 (c : Dev nD) (t : Fin cfg3.N) : (iblk3 V c 3 t : FVec Ideal S8x1024x344 .bf16) = V c main_v43 := by
  blk_ext! [iblk3, idx3 t]
theorem b3_4 (c : Dev nD) (t : Fin cfg3.N) : (iblk3 V c 4 t : FVec Ideal S8x1024x344 .bf16) = V c main_v44 := by
  blk_ext! [iblk3, idx3 t]
theorem b3_5 (c : Dev nD) (t : Fin cfg3.N) : (iblk3 V c 5 t : FVec Ideal S8x344x1024 .bf16) = V c main_v45 := by
  blk_ext! [iblk3, idx3 t]

theorem emb_moe (t : Fin cfg3.N) (s : Fin 256) (d : Fin 1024) :
    (((View.whole main_v46).slice (win3_6.rect t)).emb (ix2 s d) : S2048x1024.Idx) = ix2 (tok3 t s) d := by
  blk_ext [idx3 t, tok3]

theorem moe_arr (c : Dev nD) : (dat3 V c).arrAt 6 cfg3.N
    = moeG (V c main_v42_1) (V c main_v42_0) (V c main_v42_2) (V c main_v43) (V c main_v44) (V c main_v45) := by
  refine (dat3 V c).arrAt_eq_of_covers 6 _ (by decide +kernel) fun t _ y => ?_
  blk_simp
  rw [after3_6]
  idx_vars y
  refine (out_moe _ _ _ _ _ _ _ _).trans (Eq.trans ?_ (congrArg _ (emb_moe t y0 y1)).symm)
  simp only [termB, b3_0, b3_1, b3_2, b3_3, b3_4, b3_5]
  rfl

end Cert.KernelIdeal.Val
-- ==== Proof.Gate.lean ====
/- The kernel's gates of a token are the softmax of its two greatest scores. -/
module

public import proofs.«01_k».proof.Proof.Region3
public import proofs.«01_k».proof.Proof.Spec
public import Idealize.ShloMosaic.Lib.WordCmp

@[expose] public section

set_option maxRecDepth 16384

noncomputable section
namespace Cert.KernelIdeal.Val

open Cert.KernelIdeal Cert.KernelIdeal.Gen Idealize.ShloMosaic Idealize.ShloMosaic.TcCoe Idealize.SL.Sem
open Cert.Layer

/-- The mask is the bottom. -/
theorem msk_bot : msk = ⊥ := rfl

/-- A maximum from the bottom that one entry bounds is that entry. -/
theorem fold_max_at (l : Fin 8 → EReal) (i : Fin 8) (h : ∀ k, l k ≤ l i) :
    Finset.fold max (Ideal.ofBits FTy.f32 4286578688#32) l Finset.univ = l i := by
  rw [ofBits_bot]
  refine le_antisymm ?_ (le_foldmax ⊥ l _ i (Finset.mem_univ i))
  rcases foldmax_mem ⊥ l Finset.univ with e | ⟨y, -, e⟩
  · rw [e]; exact bot_le
  · rw [e]; exact h y

set_option maxRecDepth 100000 in
theorem fold_min_bool : ∀ (i : Fin 8) (b : Fin 8 → Bool), b i = true → (∀ k, k < i → b k = false) →
    Finset.fold IntOp.minsi (2147483647#32) (fun x : Fin 8 => if b x = true then BitVec.ofNat 32 x.val else 999#32) Finset.univ = BitVec.ofNat 32 i.val := by
  decide +kernel

/-- The smallest word of the experts that satisfy a condition, `i` the first of them. -/
theorem fold_min_at (p : Fin 8 → Prop) [DecidablePred p] (i : Fin 8) (hi : p i) (h : ∀ k, p k → i ≤ k) :
    Finset.fold IntOp.minsi (2147483647#32) (fun x : Fin 8 => if p x then BitVec.ofNat 32 x.val else 999#32) Finset.univ
      = BitVec.ofNat 32 i.val := by
  have hp : ∀ k, k < i → ¬ p k := fun k hk hpk => absurd (h k hpk) (not_le.2 hk)
  have := fold_min_bool i (fun k => decide (p k)) (by simpa using hi) (fun k hk => by simpa using hp k hk)
  simpa using this

/-- The words of two experts are equal just when the experts are. -/
theorem cmp_word (i e : Fin 8) : IntOp.cmpi CmpIPredicate.eq (BitVec.ofNat 32 i.val) (BitVec.ofNat 32 e.val) = BitVec.ofBool (decide (i = e)) := by
  revert i e
  decide

variable {l : Fin 8 → EReal} {i j : Fin 8} (hT : IsTop l i j)
include hT

theorem m1_eq : m1C l = l i := fold_max_at l i fun k => (hT.1 k).1
theorem i1_eq : i1C l = BitVec.ofNat 32 i.val := by
  unfold i1C
  rw [m1_eq hT]
  exact fold_min_at (fun x => l x = l i) i rfl fun k hk => (hT.1 k).2 hk
theorem l2_eq (k : Fin 8) : l2C l k = if k = i then ⊥ else l k := by
  unfold l2C
  rw [i1_eq hT, cmp_word, msk_bot]
  by_cases h : k = i <;> simp [h, Scalar.select]
theorem l2_j : l2C l j = l j := by rw [l2_eq hT, if_neg hT.2.1]
theorem m2_eq : m2C l = l j := by
  refine (fold_max_at (l2C l) j fun k => ?_).trans (l2_j hT)
  rw [l2_j hT, l2_eq hT]
  split
  · exact bot_le
  · next h => exact (hT.2.2 k h).1
theorem i2_eq (hj : l j ≠ ⊥) : i2C l = BitVec.ofNat 32 j.val := by
  unfold i2C
  rw [m2_eq hT]
  refine fold_min_at (fun x => l2C l x = l j) j (l2_j hT) fun k hk => ?_
  rw [l2_eq hT] at hk
  split at hk
  · exact absurd hk.symm hj
  · next h => exact (hT.2.2 k h).2 hk

/-- The weight of each expert. -/
theorem gateC_eq (hl : ∀ k, IsR (l k)) (e : Fin 8) : gateC l (BitVec.ofNat 32 e.val) = gat l i j e := by
  have hj : l j ≠ ⊥ := by obtain ⟨r, hr⟩ := hl j; rw [hr]; exact EReal.coe_ne_bot r
  have hs : s1C l = (((1 + Real.exp ((l j).toReal - (l i).toReal))⁻¹ : ℝ) : EReal) := by
    unfold s1C
    rw [m1_eq hT, m2_eq hT, (hl j).eq, (hl i).eq, ← EReal.coe_sub, Ideal.exp_coe, ← EReal.coe_one, ← EReal.coe_add,
      Ideal.div_coe (by positivity), ← EReal.coe_mul]
    simp
  have hs2 : s2C l = ((1 - (1 + Real.exp ((l j).toReal - (l i).toReal))⁻¹ : ℝ) : EReal) := by
    unfold s2C
    rw [hs, ← EReal.coe_one, ← EReal.coe_sub]
  unfold gateC
  rw [i1_eq hT, i2_eq hT hj, cmp_word, cmp_word, hs, hs2]
  unfold gat
  have hne := hT.2.1
  by_cases h : e = i
  · subst h
    simp [Scalar.select, hne]
  · by_cases h' : e = j
    · subst h'
      simp [Scalar.select, h, Ne.symm h]
    · simp [Scalar.select, h, h', Ne.symm h, Ne.symm h']

end Cert.KernelIdeal.Val
-- ==== Proof.Out.lean ====
/- The contents of the idealised kernel's result array, entry by entry, in the layer's terms. -/
module

public import proofs.«01_k».proof.Proof.Rope
public import proofs.«01_k».proof.Proof.Att
public import proofs.«01_k».proof.Proof.Region2
public import proofs.«01_k».proof.Proof.Region3
public import proofs.«01_k».proof.Proof.Gate

@[expose] public section

set_option maxRecDepth 16384

noncomputable section
namespace Cert.KernelIdeal.Val

open Cert.KernelIdeal Cert.KernelIdeal.Gen Idealize.ShloMosaic Idealize.ShloMosaic.TcCoe Idealize.SL.Sem
open Cert.Layer

section
variable {a : FVec Ideal S16x64x2048 .bf16} {x : FVec Ideal S2048x1024 .f32} {Wo : FVec Ideal S1024x1024 .bf16}
  {w : FVec Ideal S1024x1 .f32} {g : FVec Ideal S1024x8 .f32}
  {A : Fin 16 → Fin 2048 → Fin 64 → EReal} {X : Fin 2048 → Fin 1024 → EReal} {O : Fin 1024 → Fin 1024 → EReal}
  {n2 : Fin 1024 → EReal} {Gw : Fin 1024 → Fin 8 → EReal}
  (ha : ∀ h d s, @Eq EReal (a (ix3 h d s)) (A h s d)) (hx : ∀ s d, @Eq EReal (x (ix2 s d)) (X s d))
  (hO : ∀ d e, @Eq EReal (Wo (ix2 d e)) (O d e)) (hw : ∀ d, @Eq EReal (w (ix2 d 0)) (n2 d))
  (hg : ∀ d e, @Eq EReal (g (ix2 d e)) (Gw d e))
include ha hx hO

/-- The third call's hidden state. -/
theorem hoE_eq (s : Fin 2048) (d : Fin 1024) : hoE a x Wo s d = hid X A O s d := by
  unfold hoE hid
  refine (congrArg₂ (fun p q : EReal => p + q) (Finset.sum_congr rfl fun e _ => ?_) (hx s d)).trans (add_comm (G := EReal) _ _)
  exact (congrArg₂ (fun p q : EReal => p * q) (hO e d) (ha _ _ s)).trans (mul_comm (G := EReal) _ _)

include hw in
/-- The third call's normalised hidden state. -/
theorem xn2E_eq (s : Fin 2048) (d : Fin 1024) : xn2E a x Wo w s d = nrm (hid X A O) n2 s d := by
  unfold xn2E nrm
  simp only [hoE_eq ha hx hO, hw]

include hw hg in
/-- The third call's router scores. -/
theorem lgG_eq (e : Fin 8) (s : Fin 2048) : @Eq EReal (lgG a x Wo w g (ix2 e s)) (lin (nrm (hid X A O) n2) Gw s e) := by
  show @Eq EReal (∑ d : Fin 1024, g (ix2 d e) * xn2E a x Wo w s d) _
  unfold lin
  refine Finset.sum_congr rfl fun d _ => ?_
  exact (congrArg₂ (fun p q : EReal => p * q) (hg d e) (xn2E_eq ha hx hO hw s d)).trans (mul_comm (G := EReal) _ _)
end

section
variable {xn : FVec Ideal S1024x2048 .bf16} {ho : FVec Ideal S1024x2048 .f32} {lg : FVec Ideal S8x2048 .f32}
  {wg wu : FVec Ideal S8x1024x344 .bf16} {wd : FVec Ideal S8x344x1024 .bf16}
  {XX HH : Fin 2048 → Fin 1024 → EReal} {LL : Fin 2048 → Fin 8 → EReal} {Wg Wu : Fin 8 → Fin 1024 → Fin 344 → EReal}
  {Wd : Fin 8 → Fin 344 → Fin 1024 → EReal}
  (hxn : ∀ d s, @Eq EReal (xn (ix2 d s)) (XX s d)) (hho : ∀ d s, @Eq EReal (ho (ix2 d s)) (HH s d))
  (hlg : ∀ e s, @Eq EReal (lg (ix2 e s)) (LL s e)) (hwg : ∀ e d f, @Eq EReal (wg (ix3 e d f)) (Wg e d f))
  (hwu : ∀ e d f, @Eq EReal (wu (ix3 e d f)) (Wu e d f)) (hwd : ∀ e f d, @Eq EReal (wd (ix3 e f d)) (Wd e f d))
  (rL : ∀ s e, IsR (LL s e))
include hxn hho hlg hwg hwu hwd rL

/-- The fourth call's sum. -/
theorem moeG_eq {i j : Fin 8} (s : Fin 2048) (d : Fin 1024) (hT : IsTop (LL s) i j) :
    @Eq EReal (moeG xn ho lg wg wu wd (ix2 s d)) (HH s d + moe (XX s) (gat (LL s) i j) Wg Wu Wd d) := by
  show @Eq EReal (ho (ix2 d s) + ∑ e : Fin 8, ∑ f : Fin 344, wd (ix3 e f d) * (((∑ k, wg (ix3 e k f) * xn (ix2 k s))
    * Ideal.logistic (∑ k, wg (ix3 e k f) * xn (ix2 k s))
    * ∑ k, wu (ix3 e k f) * xn (ix2 k s)) * gateC (fun e => lg (ix2 e s)) (BitVec.ofNat 32 e.val))) _
  rw [moe_inside fun e => gat_nonneg _ _ _ _]
  have el : (fun e => lg (ix2 e s)) = LL s := funext fun e => hlg e s
  have eg : ∀ e : Fin 8, gateC (fun e => lg (ix2 e s)) (BitVec.ofNat 32 e.val) = gat (LL s) i j e := fun e => by
    rw [el]
    exact gateC_eq hT (rL s) e
  have e1 : ∀ e f, (∑ k, (wg (ix3 e k f) : EReal) * xn (ix2 k s)) = ∑ k, Wg e k f * XX s k := fun e f =>
    Finset.sum_congr rfl fun k _ => congrArg₂ (fun p q : EReal => p * q) (hwg e k f) (hxn k s)
  have e2 : ∀ e f, (∑ k, (wu (ix3 e k f) : EReal) * xn (ix2 k s)) = ∑ k, Wu e k f * XX s k := fun e f =>
    Finset.sum_congr rfl fun k _ => congrArg₂ (fun p q : EReal => p * q) (hwu e k f) (hxn k s)
  refine congrArg₂ (fun p q : EReal => p + q) (hho d s) (Finset.sum_congr rfl fun e _ => Finset.sum_congr rfl fun f _ => ?_)
  refine congrArg₂ (fun p q : EReal => p * q) (hwd e f d) (congrArg₂ (fun p q : EReal => p * q) ?_ (eg e))
  exact congrArg₂ (fun p q : EReal => p * Ideal.logistic p * q) (e1 e f) (e2 e f)
end

variable (m : (ℓ : Loc nD τ sig) → Buf (Elt Ideal) ℓ) (ρ : Dev nD → PrngReg) (c : Dev nD)

/-- The arguments the scores are made of are real: the norms' weights, the query and key projections, the router. -/
structure RealMem : Prop where
  n1 : ∀ d, IsR (k1 m c d)
  n2 : ∀ d, IsR (k2 m c d)
  Q : ∀ d e, IsR (kQ m c d e)
  K : ∀ d e, IsR (kK m c d e)
  G : ∀ d e, IsR (kGt m c d e)

/-- The queries the first call leaves. -/
theorem v8_q (h : Fin 16) (d : Fin 64) (s : Fin 2048) : @Eq EReal ((V8 m ρ c main_v38_0 : FVec Ideal S16x64x2048 .bf16) (ix3 h d s))
    (rq (kX m c) (kP m c) (k1 m c) (kQ m c) h s d * scl) := by
  have e : @Eq (FVec Ideal S16x64x2048 .bf16) (V8 m ρ c main_v38_0) _ := (W8_arr m ρ c 8).trans (q_arr (V7 m ρ) c)
  rw [e]
  exact qG_eq (v7_x m ρ c) (v7_w1 m ρ c) (v7_wq m ρ c) (v7_cos m ρ c) (v7_sa m ρ c) (v7_sb m ρ c) h d s

/-- The keys the first call leaves. -/
theorem v8_k (h : Fin 16) (d : Fin 64) (s : Fin 2048) : @Eq EReal ((V8 m ρ c main_v38_1 : FVec Ideal S16x64x2048 .bf16) (ix3 h d s))
    (rq (kX m c) (kP m c) (k1 m c) (kK m c) h s d) := by
  have e : @Eq (FVec Ideal S16x64x2048 .bf16) (V8 m ρ c main_v38_1) _ := (W8_arr m ρ c 9).trans (k_arr (V7 m ρ) c)
  rw [e]
  exact kG_eq (v7_x m ρ c) (v7_w1 m ρ c) (v7_wk m ρ c) (v7_cos m ρ c) (v7_sa m ρ c) (v7_sb m ρ c) h d s

/-- The values the first call leaves. -/
theorem v8_v (h : Fin 16) (d : Fin 64) (s : Fin 2048) : @Eq EReal ((V8 m ρ c main_v38_2 : FVec Ideal S16x64x2048 .bf16) (ix3 h d s))
    (vv (kX m c) (k1 m c) (kV m c) h s d) := by
  have e : @Eq (FVec Ideal S16x64x2048 .bf16) (V8 m ρ c main_v38_2) _ := (W8_arr m ρ c 10).trans (v_arr (V7 m ρ) c)
  rw [e]
  exact vG_eq (v7_x m ρ c) (v7_w1 m ρ c) (v7_wv m ρ c) h d s

variable (H : RealMem m c)
include H in
/-- The attention output the third call reads. -/
theorem v10_a (h : Fin 16) (d : Fin 64) (s : Fin 2048) : @Eq EReal ((V10 m ρ c main_v39 : FVec Ideal S16x64x2048 .bf16) (ix3 h d s))
    (att (rq (kX m c) (kP m c) (k1 m c) (kQ m c)) (rq (kX m c) (kP m c) (k1 m c) (kK m c)) (vv (kX m c) (k1 m c) (kV m c)) h s d) := by
  have e : @Eq (FVec Ideal S16x64x2048 .bf16) (V10 m ρ c main_v39) _ :=
    (W10_of m ρ c main_v39 (by decide)).trans ((W9_arr m ρ c 3).trans (att_arr (V8 m ρ) c))
  rw [e]
  exact attE_eq (v8_q m ρ c) (v8_k m ρ c) (v8_v m ρ c) (IsR.rq H.n1 H.Q) (IsR.rq H.n1 H.K) h d s

/-- The input the third call reads. -/
theorem v10_x (s : Fin 2048) (d : Fin 1024) : @Eq EReal ((V10 m ρ c main_v0 : FVec Ideal S2048x1024 .f32) (ix2 s d)) (kX m c s d) := by
  have e : @Eq (FVec Ideal S2048x1024 .f32) (V10 m ρ c main_v0) (V7 m ρ c main_v0) :=
    (W10_of m ρ c main_v0 (by decide)).trans ((W9_of m ρ c main_v0 (by decide)).trans (W8_of m ρ c main_v0 (by decide)))
  rw [e]
  exact v7_x m ρ c s d

theorem v10_wo (d e : Fin 1024) : @Eq EReal ((V10 m ρ c main_v40 : FVec Ideal S1024x1024 .bf16) (ix2 d e)) (kO m c d e) := by
  have h : W9 m ρ c (Proc.devRef .tc main_arg7) = m ((c : Thread nD τ).loc main_arg7) := W9_args m ρ c main_arg7 (by decide)
  show @Eq EReal ((StableHlo.after hostOps2 (W9 m ρ c) (Proc.devRef .tc main_v40) : FVec Ideal S1024x1024 .bf16) (ix2 d e)) _
  generalize W9 m ρ c = U at h ⊢
  simp only [hostOps2]
  after_results_simp
  rw [h]
  pointwise
  rfl

theorem v10_w2 (d : Fin 1024) : @Eq EReal ((V10 m ρ c main_v41 : FVec Ideal S1024x1 .f32) (ix2 d 0)) (k2 m c d) := by
  have h : W9 m ρ c (Proc.devRef .tc main_arg3) = m ((c : Thread nD τ).loc main_arg3) := W9_args m ρ c main_arg3 (by decide)
  show @Eq EReal ((StableHlo.after hostOps2 (W9 m ρ c) (Proc.devRef .tc main_v41) : FVec Ideal S1024x1 .f32) (ix2 d 0)) _
  generalize W9 m ρ c = U at h ⊢
  simp only [hostOps2]
  after_results_simp
  rw [h]
  pointwise
  rfl

theorem v10_g (d : Fin 1024) (e : Fin 8) : @Eq EReal ((V10 m ρ c main_arg8 : FVec Ideal S1024x8 .f32) (ix2 d e)) (kGt m c d e) := by
  have h : @Eq (FVec Ideal S1024x8 .f32) (V10 m ρ c main_arg8) (m ((c : Thread nD τ).loc main_arg8)) := W10_args m ρ c main_arg8 (by decide)
  rw [h]
  rfl

include H in
/-- The hidden state the fourth call reads. -/
theorem v12_h (d : Fin 1024) (s : Fin 2048) : @Eq EReal ((V12 m ρ c main_v42_0 : FVec Ideal S1024x2048 .f32) (ix2 d s))
    (hh (kX m c) (kP m c) (k1 m c) (kQ m c) (kK m c) (kV m c) (kO m c) s d) := by
  have e : @Eq (FVec Ideal S1024x2048 .f32) (V12 m ρ c main_v42_0) _ :=
    (W12_of m ρ c main_v42_0 (by decide)).trans ((W11_arr m ρ c 5).trans (ho_arr (V10 m ρ) c))
  rw [e]
  exact hoE_eq (v10_a m ρ c H) (v10_x m ρ c) (v10_wo m ρ c) s d

include H in
/-- Its normalisation. -/
theorem v12_x (d : Fin 1024) (s : Fin 2048) : @Eq EReal ((V12 m ρ c main_v42_1 : FVec Ideal S1024x2048 .bf16) (ix2 d s))
    (xx (kX m c) (kP m c) (k1 m c) (k2 m c) (kQ m c) (kK m c) (kV m c) (kO m c) s d) := by
  have e : @Eq (FVec Ideal S1024x2048 .bf16) (V12 m ρ c main_v42_1) _ :=
    (W12_of m ρ c main_v42_1 (by decide)).trans ((W11_arr m ρ c 6).trans (xn2_arr (V10 m ρ) c))
  rw [e]
  exact xn2E_eq (v10_a m ρ c H) (v10_x m ρ c) (v10_wo m ρ c) (v10_w2 m ρ c) s d

include H in
/-- The router's scores. -/
theorem v12_l (e : Fin 8) (s : Fin 2048) : @Eq EReal ((V12 m ρ c main_v42_2 : FVec Ideal S8x2048 .f32) (ix2 e s))
    (ll (kX m c) (kP m c) (k1 m c) (k2 m c) (kQ m c) (kK m c) (kV m c) (kO m c) (kGt m c) s e) := by
  have h : @Eq (FVec Ideal S8x2048 .f32) (V12 m ρ c main_v42_2) _ :=
    (W12_of m ρ c main_v42_2 (by decide)).trans ((W11_arr m ρ c 7).trans (lg_arr (V10 m ρ) c))
  rw [h]
  exact lgG_eq (v10_a m ρ c H) (v10_x m ρ c) (v10_wo m ρ c) (v10_w2 m ρ c) (v10_g m ρ c) e s

theorem v12_wg (e : Fin 8) (d : Fin 1024) (f : Fin 344) :
    @Eq EReal ((V12 m ρ c main_v43 : FVec Ideal S8x1024x344 .bf16) (ix3 e d f)) (kWg m c e d f) := by
  have h : W11 m ρ c (Proc.devRef .tc main_arg9) = m ((c : Thread nD τ).loc main_arg9) := W11_args m ρ c main_arg9 (by decide)
  show @Eq EReal ((StableHlo.after hostOps3 (W11 m ρ c) (Proc.devRef .tc main_v43) : FVec Ideal S8x1024x344 .bf16) (ix3 e d f)) _
  generalize W11 m ρ c = U at h ⊢
  simp only [hostOps3]
  after_results_simp
  rw [h]
  pointwise
  rfl

theorem v12_wu (e : Fin 8) (d : Fin 1024) (f : Fin 344) :
    @Eq EReal ((V12 m ρ c main_v44 : FVec Ideal S8x1024x344 .bf16) (ix3 e d f)) (kWu m c e d f) := by
  have h : W11 m ρ c (Proc.devRef .tc main_arg10) = m ((c : Thread nD τ).loc main_arg10) := W11_args m ρ c main_arg10 (by decide)
  show @Eq EReal ((StableHlo.after hostOps3 (W11 m ρ c) (Proc.devRef .tc main_v44) : FVec Ideal S8x1024x344 .bf16) (ix3 e d f)) _
  generalize W11 m ρ c = U at h ⊢
  simp only [hostOps3]
  after_results_simp
  rw [h]
  pointwise
  rfl

theorem v12_wd (e : Fin 8) (f : Fin 344) (d : Fin 1024) :
    @Eq EReal ((V12 m ρ c main_v45 : FVec Ideal S8x344x1024 .bf16) (ix3 e f d)) (kWd m c e f d) := by
  have h : W11 m ρ c (Proc.devRef .tc main_arg11) = m ((c : Thread nD τ).loc main_arg11) := W11_args m ρ c main_arg11 (by decide)
  show @Eq EReal ((StableHlo.after hostOps3 (W11 m ρ c) (Proc.devRef .tc main_v45) : FVec Ideal S8x344x1024 .bf16) (ix3 e f d)) _
  generalize W11 m ρ c = U at h ⊢
  simp only [hostOps3]
  after_results_simp
  rw [h]
  pointwise
  rfl

include H in
/-- The array the fourth call leaves. -/
theorem w13_out {i j : Fin 8} (s : Fin 2048) (d : Fin 1024)
    (hT : IsTop (ll (kX m c) (kP m c) (k1 m c) (k2 m c) (kQ m c) (kK m c) (kV m c) (kO m c) (kGt m c) s) i j) :
    @Eq EReal ((W13 m ρ c (Proc.devRef .tc main_v46) : FVec Ideal S2048x1024 .f32) (ix2 s d))
      (outv (kX m c) (kP m c) (k1 m c) (k2 m c) (kQ m c) (kK m c) (kV m c) (kO m c) (kGt m c) (kWg m c) (kWu m c) (kWd m c) i j s d) := by
  have e : @Eq (FVec Ideal S2048x1024 .f32) (W13 m ρ c (Proc.devRef .tc main_v46)) _ :=
    (W13_arr m ρ c 6).trans (moe_arr (V12 m ρ) c)
  rw [e]
  exact moeG_eq (v12_x m ρ c H) (v12_h m ρ c H) (v12_l m ρ c H) (v12_wg m ρ c) (v12_wu m ρ c) (v12_wd m ρ c)
    (IsR.ll H.n2 H.G) s d hT

include H in
/-- The result array of the idealised kernel. -/
theorem w14_out {i j : Fin 8} (s : Fin 2048) (d : Fin 1024)
    (hT : IsTop (ll (kX m c) (kP m c) (k1 m c) (k2 m c) (kQ m c) (kK m c) (kV m c) (kO m c) (kGt m c) s) i j) :
    @Eq EReal ((W14 m ρ c (Proc.devRef .tc main_v47) : FVec Ideal S1x2048x1024 .f32) (ix3 0 s d))
      (outv (kX m c) (kP m c) (k1 m c) (k2 m c) (kQ m c) (kK m c) (kV m c) (kO m c) (kGt m c) (kWg m c) (kWu m c) (kWd m c) i j s d) := by
  have h := w13_out m ρ c H s d hT
  show @Eq EReal ((StableHlo.after hostOps4 (W13 m ρ c) (Proc.devRef .tc main_v47) : FVec Ideal S1x2048x1024 .f32) (ix3 0 s d)) _
  generalize W13 m ρ c = U at h ⊢
  simp only [hostOps4]
  after_results_simp
  pointwise
  exact h

end Cert.KernelIdeal.Val
-- ==== Proof.KRun.lean ====
/- The idealised kernel's run, with the contents it leaves in its result array. -/
module

public import proofs.«01_k».proof.Proof.Gen.KernelIdeal.Frame

@[expose] public section

set_option maxRecDepth 16384

noncomputable section
namespace Cert.KernelIdeal.Val

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Every execution of the program ends with its result array at the contents the last host operation computes and its
    argument arrays as launched. -/
theorem run_out : θ_run defs (onTc (τ := τ) (main (F := Ideal))) ⟨m, fun _ => 0, ρ⟩ (fun r => (∀ c : Dev nD,
      r.2.mem ((c.tc : Thread nD τ).loc main_v47) = W14 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v47 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩), funext fun g => hz g (.inr (no_unscoped g.2))⟩)

end Cert.KernelIdeal.Val
-- ==== Proof.Ref.lean ====
/- The first half of the reference read entry by entry: projections, rotations, masked scores. -/
module

public import proofs.«01_k».proof.Proof.Gen.ReferenceIdeal.Run
public import proofs.«01_k».proof.Proof.Spec
public import Idealize.ShloMosaic.Lib.Pointwise
public import Idealize.ShloMosaic.Lib.IdealHost
public import Idealize.ShloMosaic.Lib.WordCmp

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Cert.Layer
variable (L : Valuation τ sig (Elt Ideal))

/-- The reference's arguments, entry by entry. -/
def aX (s : Fin 2048) (d : Fin 1024) : EReal := (L (Proc.devRef .tc main_arg0) : FVec Ideal S1x2048x1024 .f32) (ix3 0 s d)
def aP (s : Fin 2048) : BitVec 32 := (L (Proc.devRef .tc main_arg1) : IVec S1x2048 32) (ix2 0 s)
def a1 (d : Fin 1024) : EReal := (L (Proc.devRef .tc main_arg2) : FVec Ideal S1024 .f32) (ix1 d)
def a2 (d : Fin 1024) : EReal := (L (Proc.devRef .tc main_arg3) : FVec Ideal S1024 .f32) (ix1 d)
def aQ (d e : Fin 1024) : EReal := (L (Proc.devRef .tc main_arg4) : FVec Ideal S1024x1024 .f32) (ix2 d e)
def aK (d e : Fin 1024) : EReal := (L (Proc.devRef .tc main_arg5) : FVec Ideal S1024x1024 .f32) (ix2 d e)
def aV (d e : Fin 1024) : EReal := (L (Proc.devRef .tc main_arg6) : FVec Ideal S1024x1024 .f32) (ix2 d e)
def aO (d e : Fin 1024) : EReal := (L (Proc.devRef .tc main_arg7) : FVec Ideal S1024x1024 .f32) (ix2 d e)
def aG (d : Fin 1024) (e : Fin 8) : EReal := (L (Proc.devRef .tc main_arg8) : FVec Ideal S1024x8 .f32) (ix2 d e)
def aWg (e : Fin 8) (d : Fin 1024) (f : Fin 344) : EReal := (L (Proc.devRef .tc main_arg9) : FVec Ideal S8x1024x344 .f32) (ix3 e d f)
def aWu (e : Fin 8) (d : Fin 1024) (f : Fin 344) : EReal := (L (Proc.devRef .tc main_arg10) : FVec Ideal S8x1024x344 .f32) (ix3 e d f)
def aWd (e : Fin 8) (f : Fin 344) (d : Fin 1024) : EReal := (L (Proc.devRef .tc main_arg11) : FVec Ideal S8x344x1024 .f32) (ix3 e f d)

theorem y12 (s d) : (res_main_v12 L : FVec Ideal S1x2048x1024 .f32) (ix3 0 s d) = nrm (aX L) (a1 L) s d := by
  pointwise [res_main_v12]
  rfl
theorem y15 (h s d) : (res_main_v15 L : FVec Ideal S1x16x2048x64 .f32) (ix4 0 h s d) = lin (nrm (aX L) (a1 L)) (aQ L) s (hd h d) := by
  pointwise [res_main_v15]
  simp only [y12]
  rfl
theorem y18 (h s d) : (res_main_v18 L : FVec Ideal S1x16x2048x64 .f32) (ix4 0 h s d) = lin (nrm (aX L) (a1 L)) (aK L) s (hd h d) := by
  pointwise [res_main_v18]
  simp only [y12]
  rfl
theorem y38 (s d) : (res_main_v38 L : FVec Ideal S1x2048x32 .f32) (ix3 0 s d) = ang (aP L) s d := by
  pointwise [res_main_v38]
  rfl
theorem y39a (s) (x : Fin 32) (hx : x.val < 64) : (res_main_v39 L : FVec Ideal S1x2048x64 .f32) (ix3 0 s ⟨x.val, hx⟩) = ang (aP L) s x := by
  pointwise [res_main_v39]
  rw [y38]
theorem y39b (s) (x : Fin 32) (hx : 32 + x.val < 64) : (res_main_v39 L : FVec Ideal S1x2048x64 .f32) (ix3 0 s ⟨32 + x.val, hx⟩) = ang (aP L) s x := by
  pointwise [res_main_v39]
  rw [y38]
theorem y41a (s) (x : Fin 32) (hx : x.val < 64) : (res_main_v41 L : FVec Ideal S1x1x2048x64 .f32) (ix4 0 0 s ⟨x.val, hx⟩) = Ideal.cos (ang (aP L) s x) := by
  pointwise [res_main_v41]
  rw [y39a]
theorem y41b (s) (x : Fin 32) (hx : 32 + x.val < 64) : (res_main_v41 L : FVec Ideal S1x1x2048x64 .f32) (ix4 0 0 s ⟨32 + x.val, hx⟩) = Ideal.cos (ang (aP L) s x) := by
  pointwise [res_main_v41]
  rw [y39b]
theorem y43a (s) (x : Fin 32) (hx : x.val < 64) : (res_main_v43 L : FVec Ideal S1x1x2048x64 .f32) (ix4 0 0 s ⟨x.val, hx⟩) = Ideal.sin (ang (aP L) s x) := by
  pointwise [res_main_v43]
  rw [y39a]
theorem y43b (s) (x : Fin 32) (hx : 32 + x.val < 64) : (res_main_v43 L : FVec Ideal S1x1x2048x64 .f32) (ix4 0 0 s ⟨32 + x.val, hx⟩) = Ideal.sin (ang (aP L) s x) := by
  pointwise [res_main_v43]
  rw [y39b]

/-- The scores: the scaled products up to the query, bottom after it. -/
def scr (Q K : Fin 16 → Fin 2048 → Fin 64 → EReal) (h : Fin 16) (i j : Fin 2048) : EReal :=
  if j ≤ i then Ideal.div (∑ d, Q h i d * K h j d) (Ideal.ofBits FTy.f32 1090519040#32) else ⊥

theorem rot_lo (f) (P) (h s) (x : Fin 32) (hx : x.val < 64) (hy : 32 + x.val < 64) :
    rot f P h s ⟨x.val, hx⟩ = f s (hd h ⟨x.val, hx⟩) * Ideal.cos (ang P s x) + -f s (hd h ⟨32 + x.val, hy⟩) * Ideal.sin (ang P s x) := by
  unfold rot
  rw [dif_pos x.isLt]
theorem rot_hi (f) (P) (h s) (x : Fin 32) (hx : x.val < 64) (hy : 32 + x.val < 64) :
    rot f P h s ⟨32 + x.val, hy⟩ = f s (hd h ⟨32 + x.val, hy⟩) * Ideal.cos (ang P s x) + f s (hd h ⟨x.val, hx⟩) * Ideal.sin (ang P s x) := by
  unfold rot
  rw [dif_neg (by simp)]
  have e : (⟨32 + x.val - 32, by omega⟩ : Fin 32) = x := Fin.ext (by simp)
  have e' : (⟨32 + x.val - 32, by omega⟩ : Fin 64) = ⟨x.val, hx⟩ := Fin.ext (by simp)
  simp only [e, e']

theorem y68 (h i j) : (res_main_v68 L : FVec Ideal S1x16x2048x2048 .f32) (ix4 0 h i j)
    = scr (rq (aX L) (aP L) (a1 L) (aQ L)) (rq (aX L) (aP L) (a1 L) (aK L)) h i j := by
  pointwise [res_main_v68]
  have hc : IntOp.cmpi CmpIPredicate.sge (IntOp.addi (BitVec.ofNat 32 i.val) 0#32) (BitVec.ofNat 32 j.val) = BitVec.ofBool (decide (j ≤ i)) := by
    rw [show IntOp.addi (BitVec.ofNat 32 i.val) 0#32 = BitVec.ofNat 32 i.val from BitVec.add_zero _,
      WordCmp.cmpi_sge_ofNat (by norm_num; omega) (by norm_num; omega)]
    rfl
  rw [hc]
  simp only [y15, y18, y41a, y41b, y43a, y43b]
  unfold scr
  by_cases hij : j ≤ i
  · rw [if_pos hij]
    simp only [hij, decide_true]
    refine congrArg (Ideal.div · _) ?_
    refine Eq.trans ?_ (Fin.sum_univ_add (a := 32) (b := 32) _).symm
    refine congrArg₂ (· + ·) (Finset.sum_congr rfl fun x _ => ?_) (Finset.sum_congr rfl fun x _ => ?_)
    · exact congrArg₂ (· * ·) (rot_lo _ _ h i x _ _).symm (rot_lo _ _ h j x _ _).symm
    · exact congrArg₂ (· * ·) (rot_hi _ _ h i x _ _).symm (rot_hi _ _ h j x _ _).symm
  · rw [if_neg hij]
    simp only [hij, decide_false]
    exact Cert.KernelIdeal.Val.ofBits_bot

end Cert.ReferenceIdeal.Val
-- ==== Proof.Ref2.lean ====
/- The second half of the reference: attention, residual, second normalisation, router scores. -/
module

public import proofs.«01_k».proof.Proof.Gen.ReferenceIdeal.Run
public import proofs.«01_k».proof.Proof.Ref
public import Idealize.ShloMosaic.Lib.Pointwise
public import Idealize.ShloMosaic.Lib.IdealHost
public import Idealize.ShloMosaic.Lib.WordCmp

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Cert.Layer
variable (L : Valuation τ sig (Elt Ideal))

/-- The arguments the scores are made of are real: the norms' weights, the query and key projections, the router. -/
structure RealArgs : Prop where
  n1 : ∀ d, IsR (a1 L d)
  n2 : ∀ d, IsR (a2 L d)
  Q : ∀ d e, IsR (aQ L d e)
  K : ∀ d e, IsR (aK L d e)
  G : ∀ d e, IsR (aG L d e)

section
variable {Q K V : Fin 16 → Fin 2048 → Fin 64 → EReal} (hQ : ∀ h s d, IsR (Q h s d)) (hK : ∀ h s d, IsR (K h s d))
  (h : Fin 16) (i j : Fin 2048) (d : Fin 64)

include hQ hK in
theorem scr_real : scr Q K h i j = if j ≤ i then (((∑ d, (Q h i d).toReal * (K h j d).toReal) / 8 : ℝ) : EReal) else ⊥ := by
  unfold scr
  refine if_congr Iff.rfl ?_ rfl
  have e : ∀ d, Q h i d * K h j d = (((Q h i d).toReal * (K h j d).toReal : ℝ) : EReal) := fun d => by
    rw [EReal.coe_mul, ← (hQ h i d).eq, ← (hK h j d).eq]
  simp only [e]
  rw [Cert.KernelIdeal.Val.coe_sum, ofBits_8, Ideal.div_coe (by norm_num), ← EReal.coe_mul, mul_one_div]

include hQ hK in
theorem exp_scr (μ : ℝ) : Ideal.exp (scr Q K h i j - (μ : EReal)) = ((ew Q K h i j * Real.exp (-μ) : ℝ) : EReal) := by
  rw [scr_real hQ hK]
  unfold ew
  split
  · rw [← EReal.coe_sub, Ideal.exp_coe, sub_eq_add_neg, Real.exp_add]
  · rw [EReal.bot_sub, Ideal.exp_bot, zero_mul, EReal.coe_zero]

theorem ew_nonneg : 0 ≤ ew Q K h i j := by
  unfold ew
  split
  · exact (Real.exp_pos _).le
  · exact le_rfl

theorem ew_sum_pos : 0 < ∑ j, ew Q K h i j := by
  refine Finset.sum_pos' (fun j _ => ew_nonneg h i j) ⟨i, Finset.mem_univ _, ?_⟩
  unfold ew
  rw [if_pos le_rfl]
  exact Real.exp_pos _

/-- A softmax taken after subtracting any real number is the softmax. -/
theorem softmax_mean {p : Fin 2048 → EReal} {μ : ℝ} (hp : ∀ j, p j = ((ew Q K h i j * Real.exp (-μ) : ℝ) : EReal)) :
    (∑ j, Ideal.div (p j) (∑ j', p j') * V h j d) = att Q K V h i d := by
  have hs := ew_sum_pos (Q := Q) (K := K) h i
  simp only [hp]
  rw [Cert.KernelIdeal.Val.coe_sum, ← Finset.sum_mul]
  have hne : (∑ j, ew Q K h i j) * Real.exp (-μ) ≠ 0 := (mul_pos hs (Real.exp_pos _)).ne'
  unfold att
  refine Finset.sum_congr rfl fun j _ => congrArg (fun z : EReal => z * V h j d) ?_
  rw [Ideal.div_coe hne, ← EReal.coe_mul]
  refine congrArg (fun r : ℝ => (r : EReal)) ?_
  rw [mul_one_div, mul_div_mul_right _ _ (Real.exp_pos (-μ)).ne']
end

theorem ix4_eq (j : S1x16x2048x2048.Idx) : j = ix4 0 (j 1) (j 2) (j 3) := by
  funext a
  fin_cases a
  · exact Fin.ext (by have := (j 0).isLt; have e : S1x16x2048x2048.size 0 = 1 := rfl; show (j 0).val = 0; omega)
  · rfl
  · rfl
  · rfl

variable {L}

/-- A maximum of reals and bottoms, one of them real, is real. -/
theorem fold_real {ι : Type} (g : ι → EReal) (t : Finset ι) (x : ι) (hx : x ∈ t) (hr : IsR (g x))
    (hg : ∀ y, g y = ⊥ ∨ IsR (g y)) : ∃ μ : ℝ, Finset.fold max ⊥ g t = (μ : EReal) := by
  have hle := Cert.KernelIdeal.Val.le_foldmax ⊥ g t x hx
  obtain ⟨r, hr⟩ := hr
  rw [hr] at hle
  rcases Cert.KernelIdeal.Val.foldmax_mem ⊥ g t with e | ⟨y, -, e⟩
  · rw [e] at hle
    exact absurd hle (by simp)
  · rw [e] at hle ⊢
    rcases hg y with h | h
    · rw [h] at hle
      exact absurd hle (by simp)
    · exact h

theorem drop_self (h : Fin 16) (i j : Fin 2048) :
    (reducesTo_S1x16x2048x2048_S1x16x2048_d3.drop (ix4 0 h i j) : S1x16x2048.Idx) = ix3 0 h i := by
  funext a
  fin_cases a <;> rfl

theorem y68_real (H : RealArgs L) (x : S1x16x2048x2048.Idx) :
    (res_main_v68 L : S1x16x2048x2048.Idx → EReal) x = (⊥ : EReal) ∨ IsR ((res_main_v68 L : S1x16x2048x2048.Idx → EReal) x) := by
  rw [ix4_eq x]
  have h := (y68 L (x 1) (x 2) (x 3)).trans (scr_real (fun h s d => IsR.rq (P := aP L) H.n1 H.Q h s d)
    (fun h s d => IsR.rq (P := aP L) H.n1 H.K h s d) _ _ _)
  generalize (res_main_v68 L : S1x16x2048x2048.Idx → EReal) = g at h ⊢
  split at h
  · exact Or.inr ⟨_, h⟩
  · exact Or.inl h

theorem y68_self (H : RealArgs L) (h : Fin 16) (i : Fin 2048) :
    IsR ((res_main_v68 L : S1x16x2048x2048.Idx → EReal) (ix4 0 h i i)) := by
  have h := (y68 L h i i).trans (scr_real (fun h s d => IsR.rq (P := aP L) H.n1 H.Q h s d)
    (fun h s d => IsR.rq (P := aP L) H.n1 H.K h s d) _ _ _)
  rw [if_pos le_rfl] at h
  exact ⟨_, h⟩

/-- A maximum of reals and bottoms along axes, one entry a real, is real. -/
theorem reduce_real {s t u : Shape} {axes : List (Fin s.rank)} (x : FVec Ideal s .f32) (init : FVec Ideal u .f32) (h : s.ReducesTo axes t)
    (hu : 0 < u.numel) (j : t.Idx) (i : s.Idx) (hij : h.drop i = j) (hi : IsR (x i)) (hx : ∀ y, @Eq EReal (x y) ⊥ ∨ IsR (x y))
    (hb : @Eq EReal (init (Shape.Idx.first hu)) ⊥) :
    ∃ μ : ℝ, @Eq EReal (Host.reduce (FloatOps.maximumf : Ideal .f32 → Ideal .f32 → Ideal .f32) x init h hu j) (μ : EReal) := by
  have e := Host.reduce_eq_fold (fun z w : EReal => max z w) x init h hu j
  rw [hb] at e
  obtain ⟨μ, hμ⟩ := fold_real x (Finset.univ.filter fun i => h.drop i = j) i (Finset.mem_filter.mpr ⟨Finset.mem_univ _, hij⟩) hi hx
  exact ⟨μ, e.trans hμ⟩

/-- The larger of a spread bottom and a row is the row. -/
theorem max_spread (c : FVec Ideal S_ .f32) (hc : ∀ i, @Eq EReal (c i) ⊥) (R : FVec Ideal S1x16x2048 .f32) (j : S1x16x2048.Idx) :
    @Eq EReal (maximumf (broadcastInDim S1x16x2048 ![] bcast_S_S1x16x2048 c) R j) (R j) := by
  show @Eq EReal (max (broadcastInDim S1x16x2048 ![] bcast_S_S1x16x2048 c j) (R j)) (R j)
  have e : @Eq EReal (broadcastInDim S1x16x2048 ![] bcast_S_S1x16x2048 c j) ⊥ := hc _
  rw [e, max_eq_right bot_le]

theorem const_bot (i : S_.Idx) : @Eq EReal ((constant S_ .f32 0xFF800000#32 : FVec Ideal S_ .f32) i) ⊥ := Cert.KernelIdeal.Val.ofBits_bot

/-- A row of maxima spread over the keys, read at one key. -/
theorem spread_row (R : FVec Ideal S1x16x2048 .f32) (h : Fin 16) (i j : Fin 2048) :
    @Eq EReal (broadcastInDim S1x16x2048x2048 ![0, 1, 2, 3] bcast_S1x16x2048x1_S1x16x2048x2048_0_1_2_3
      (broadcastInDim S1x16x2048x1 ![0, 1, 2] bcast_S1x16x2048_S1x16x2048x1_0_1_2 R) (ix4 0 h i j)) (R (ix3 0 h i)) := by
  pointwise

/-- The unnormalised softmax is the weight times a factor of the row. -/
theorem y75 (H : RealArgs L) (h i) : ∃ μ : ℝ, ∀ j, (res_main_v75 L : FVec Ideal S1x16x2048x2048 .f32) (ix4 0 h i j)
    = ((ew (rq (aX L) (aP L) (a1 L) (aQ L)) (rq (aX L) (aP L) (a1 L) (aK L)) h i j * Real.exp (-μ) : ℝ) : EReal) := by
  have hQ := fun h s d => IsR.rq (X := aX L) (P := aP L) H.n1 H.Q h s d
  have hK := fun h s d => IsR.rq (X := aX L) (P := aP L) H.n1 H.K h s d
  have hc := const_bot
  have h68 := y68 L h i
  have hr := y68_real H
  have hs := y68_self H h i
  unfold res_main_v75
  generalize (constant S_ .f32 0xFF800000#32 : FVec Ideal S_ .f32) = c at hc ⊢
  generalize (res_main_v68 L : FVec Ideal S1x16x2048x2048 .f32) = g at h68 hr hs ⊢
  obtain ⟨μ, hμ⟩ := reduce_real g c reducesTo_S1x16x2048x2048_S1x16x2048_d3 h_S_ (ix3 0 h i) (ix4 0 h i i) (drop_self h i i) hs hr (hc _)
  refine ⟨μ, fun j => ?_⟩
  refine (congrArg₂ (fun a b : EReal => Ideal.exp (a - b)) (h68 j) ((spread_row _ h i j).trans ((max_spread c hc _ _).trans hμ))).trans ?_
  exact exp_scr hQ hK h i j μ

theorem y84 (H : RealArgs L) (s d) : (res_main_v84 L : FVec Ideal S1x2048x1024 .f32) (ix3 0 s d)
    = hh (aX L) (aP L) (a1 L) (aQ L) (aK L) (aV L) (aO L) s d := by
  pointwise [res_main_v84]
  have h75 := y75 H
  have h12 := y12 L
  generalize (res_main_v75 L : FVec Ideal S1x16x2048x2048 .f32) = p at h75 ⊢
  generalize (res_main_v12 L : FVec Ideal S1x2048x1024 .f32) = n at h12 ⊢
  simp only [h12]
  refine congrArg (fun z : EReal => aX L s d + z) (Finset.sum_congr rfl fun e _ => congrArg (fun z : EReal => z * aO L e d) ?_)
  obtain ⟨μ, hμ⟩ := h75 ⟨e.val / 64, by omega⟩ s
  have hm := softmax_mean (V := vv (aX L) (a1 L) (aV L)) ⟨e.val / 64, by omega⟩ s ⟨e.val % 64, by omega⟩ hμ
  refine Eq.trans ?_ hm
  have he : hd ⟨e.val / 64, by omega⟩ ⟨e.val % 64, by omega⟩ = e := Fin.ext (by show e.val / 64 * 64 + e.val % 64 = e.val; omega)
  unfold vv
  rw [he]
  rfl

theorem y98 (H : RealArgs L) (s d) : (res_main_v98 L : FVec Ideal S2048x1024 .f32) (ix2 s d)
    = xx (aX L) (aP L) (a1 L) (a2 L) (aQ L) (aK L) (aV L) (aO L) s d := by
  pointwise [res_main_v98]
  simp only [y84 H]
  rfl

theorem y99 (H : RealArgs L) (s d) : (res_main_v99 L : FVec Ideal S2048x8 .f32) (ix2 s d)
    = ll (aX L) (aP L) (a1 L) (a2 L) (aQ L) (aK L) (aV L) (aO L) (aG L) s d := by
  pointwise [res_main_v99]
  simp only [y98 H]
  rfl

end Cert.ReferenceIdeal.Val
-- ==== Proof.Ref3.lean ====
/- The router of the reference: its two greatest scores, their softmax, and the gates it scatters. -/
module

public import proofs.«01_k».proof.Proof.Gen.ReferenceIdeal.Run
public import proofs.«01_k».proof.Proof.Ref2
public import Idealize.ShloMosaic.Lib.SortFacts
public import Idealize.ShloMosaic.Lib.SortPrefix
public import Idealize.ShloMosaic.Lib.Routing.OpsPair
public import Idealize.ShloMosaic.Lib.Routing.OpsSet
public import Idealize.ShloMosaic.Lib.Pointwise
public import Idealize.ShloMosaic.Lib.IdealHost
public import Idealize.ShloMosaic.Lib.WordCmp

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Cert.Layer

/-- A stable sort of an increasing list compares only later positions with earlier ones. -/
theorem stableSort_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The order the reference sorts scores by: the greater first. -/
def gtB (l : Fin 8 → EReal) (k k' : Fin 8) : Bool := (FloatOps.cmpfTotal (F := Ideal) (φ := .f32) .gt (l k) (l k') == 1#1)

theorem gtB_iff (l : Fin 8 → EReal) (k k' : Fin 8) : gtB l k k' = decide (l k' < l k) := by
  show (BitVec.ofBool (decide (l k' < l k)) == 1#1) = _
  cases decide (l k' < l k) <;> rfl

/-- The first two positions of the sort are the greatest score and the next, the earlier of equals first. -/
theorem isTop_sorted (l : Fin 8 → EReal) : IsTop l (sortedFrom (gtB l) 0) (sortedFrom (gtB l) 1) := by
  have hT := StrictTotalBefore.of_key_then_position (fun a b : EReal => decide (b < a)) l (fun a => by simp)
    (fun a b c h h' => by simp only [decide_eq_true_eq] at *; exact h'.trans h)
    (fun a b => by simp only [decide_eq_true_eq]; rcases lt_trichotomy a b with h | h | h <;> tauto)
  set R' : Fin 8 → Fin 8 → Bool := fun k k' => decide (l k' < l k) || (decide (l k = l k') && decide (k < k')) with hR'
  have hs : sortedFrom (gtB l) = sortedFrom R' := by
    have hp : sortPositions 8 (gtB l) = sortPositions 8 R' := by
      refine stableSort_later _ _ _ (List.pairwise_lt_finRange 8) fun a b hab => ?_
      rw [gtB_iff, hR']
      simp [not_lt.2 hab.le]
    unfold sortedFrom
    funext k
    simp only [List.get_eq_getElem, hp]
    rfl
  rw [hs]
  have hno := sortedFrom_noInversion R' R' hT.asymm (fun _ _ h => h) hT.negTrans
  have hsur := sortedFrom_surjective R'
  have hinj := sortedFrom_injective R'
  have key : ∀ i j : Fin 8, i < j → l (sortedFrom R' j) ≤ l (sortedFrom R' i)
      ∧ (l (sortedFrom R' j) = l (sortedFrom R' i) → sortedFrom R' i ≤ sortedFrom R' j) := by
    intro i j hij
    have h := hno i j hij
    simp only [hR', Bool.or_eq_false_iff, decide_eq_false_iff_not, not_lt, Bool.and_eq_false_iff] at h
    exact ⟨h.1, fun e => h.2.elim (fun ne => absurd e ne) id⟩
  refine ⟨fun k => ?_, fun e => absurd (hinj e) (by decide), fun k hk => ?_⟩
  · obtain ⟨m, rfl⟩ := hsur k
    rcases Nat.eq_zero_or_pos m.val with h | h
    · have : m = 0 := Fin.ext h
      subst this
      exact ⟨le_rfl, fun _ => le_rfl⟩
    · exact key 0 m h
  · obtain ⟨m, rfl⟩ := hsur k
    rcases Nat.lt_or_ge 1 m.val with h | h
    · exact key 1 m h
    · have h0 : m ≠ 0 := fun e => hk (by rw [e])
      have : m = 1 := by
        apply Fin.ext
        have : m.val ≠ 0 := fun e => h0 (Fin.ext e)
        show m.val = 1
        omega
      subst this
      exact ⟨le_rfl, fun _ => le_rfl⟩

variable (L : Valuation τ sig (Elt Ideal))

/-- The scores of a token. -/
def sco (s : Fin 2048) (e : Fin 8) : EReal := (res_main_v99 L : FVec Ideal S2048x8 .f32) (ix2 s e)

/-- The expert the reference picks at rank `r` for a token. -/
def pick (s : Fin 2048) (r : Fin 2) : Fin 8 := sortedFrom (gtB (sco L s)) (r.castLE (by decide))

theorem pick_top (s) : IsTop (sco L s) (pick L s 0) (pick L s 1) := isTop_sorted _

theorem along_ix2 (s : Fin 2048) (e k : Fin 8) : (ix2 s e : S2048x8.Idx).along 1 k = ix2 s k := by
  funext a
  fin_cases a <;> rfl

/-- The first two columns of a table. -/
theorem slice_col {α : Type} (y : S2048x8.Idx → α) (h : S2048x8.Slices (fun _ => 0) S2048x2) (s : Fin 2048) (r : Fin 2) :
    extractStridedSlice S2048x2 (fun _ => 0) y h (ix2 s r) = y (ix2 s (r.castLE (by decide))) := by
  refine congrArg y ?_
  funext a
  fin_cases a <;> exact Fin.ext (Nat.zero_add _)

/-- A stable sort of a table's rows with their positions: the values. -/
theorem sort_fst (g : FVec Ideal S2048x8 .f32) (w : IVec S2048x8 32) (s : Fin 2048) (e : Fin 8) :
    (Host.sort2 S2048x8 1 (fun l r => FloatOps.cmpfTotal (F := Ideal) (φ := .f32) .gt l.1 r.1) g w).1 (ix2 s e) = g (ix2 s (sortedFrom (gtB fun k => g (ix2 s k)) e)) := by
  exact congrArg (fun ρ : Fin 8 → S2048x8.Idx => g (ρ (sortedFrom (fun k k' => FloatOps.cmpfTotal (F := Ideal) (φ := .f32) .gt (g (ρ k)) (g (ρ k')) == 1#1) e)))
    (funext fun k => along_ix2 s e k)

/-- The positions. -/
theorem sort_snd (g : FVec Ideal S2048x8 .f32) (w : IVec S2048x8 32) (s : Fin 2048) (e : Fin 8) :
    (Host.sort2 S2048x8 1 (fun l r => FloatOps.cmpfTotal (F := Ideal) (φ := .f32) .gt l.1 r.1) g w).2 (ix2 s e) = w (ix2 s (sortedFrom (gtB fun k => g (ix2 s k)) e)) := by
  exact congrArg (fun ρ : Fin 8 → S2048x8.Idx => w (ρ (sortedFrom (fun k k' => FloatOps.cmpfTotal (F := Ideal) (φ := .f32) .gt (g (ρ k)) (g (ρ k')) == 1#1) e)))
    (funext fun k => along_ix2 s e k)

/-- Each entry's column. -/
def pos : IVec S2048x8 32 := fun i => if hd : 1 < S2048x8.rank then iotaInDim S2048x8 32 ⟨1, hd⟩ i else 0#32

/-- The values of the two greatest. -/
theorem topK_fst (g : FVec Ideal S2048x8 .f32) (s : Fin 2048) (r : Fin 2) :
    (Host.topK S2048x2 1 (FloatOps.cmpfTotal (F := Ideal) (φ := .f32) .gt) g sliceFits_S2048x8_S2048x2).1 (ix2 s r)
      = g (ix2 s (sortedFrom (gtB fun k => g (ix2 s k)) (r.castLE (by decide)))) :=
  (slice_col (Host.sort2 S2048x8 1 (fun l r => FloatOps.cmpfTotal (F := Ideal) (φ := .f32) .gt l.1 r.1) g pos).1 sliceFits_S2048x8_S2048x2 s r).trans (sort_fst g pos s _)

/-- The positions of the two greatest. -/
theorem topK_snd (g : FVec Ideal S2048x8 .f32) (s : Fin 2048) (r : Fin 2) :
    (Host.topK S2048x2 1 (FloatOps.cmpfTotal (F := Ideal) (φ := .f32) .gt) g sliceFits_S2048x8_S2048x2).2 (ix2 s r)
      = BitVec.ofNat 32 (sortedFrom (gtB fun k => g (ix2 s k)) (r.castLE (by decide))).val :=
  (slice_col (Host.sort2 S2048x8 1 (fun l r => FloatOps.cmpfTotal (F := Ideal) (φ := .f32) .gt l.1 r.1) g pos).2 sliceFits_S2048x8_S2048x2 s r).trans (sort_snd g pos s _)

/-- The picked scores. -/
theorem y_values (s r) : (res_main_values L : FVec Ideal S2048x2 .f32) (ix2 s r) = sco L s (pick L s r) := topK_fst _ s r

/-- The picked experts as words. -/
theorem y_indices (s r) : (res_main_indices L : IVec S2048x2 32) (ix2 s r) = BitVec.ofNat 32 (pick L s r).val := topK_snd _ s r

theorem const_bot1 (i : S_.Idx) : @Eq EReal ((constant S_ .f32 0xFF800000#32 : FVec Ideal S_ .f32) i) ⊥ := const_bot i

/-- The larger of a spread bottom and a row is the row. -/
theorem max_spread1 (c : FVec Ideal S_ .f32) (hc : ∀ i, @Eq EReal (c i) ⊥) (R : FVec Ideal S2048 .f32) (j : S2048.Idx) :
    @Eq EReal (maximumf (broadcastInDim S2048 ![] bcast_S_S2048 c) R j) (R j) := by
  show @Eq EReal (max (broadcastInDim S2048 ![] bcast_S_S2048 c j) (R j)) (R j)
  have e : @Eq EReal (broadcastInDim S2048 ![] bcast_S_S2048 c j) ⊥ := hc _
  rw [e, max_eq_right bot_le]

/-- A token's maximum spread over its two scores. -/
theorem spread_row1 (R : FVec Ideal S2048 .f32) (s : Fin 2048) (r : Fin 2) :
    @Eq EReal (broadcastInDim S2048x2 ![0, 1] bcast_S2048x1_S2048x2_0_1 (broadcastInDim S2048x1 ![0] bcast_S2048_S2048x1_0 R) (ix2 s r)) (R (ix1 s)) := by
  pointwise

theorem drop_self1 (s : Fin 2048) (r : Fin 2) : (reducesTo_S2048x2_S2048_d1.drop (ix2 s r) : S2048.Idx) = ix1 s := by
  funext a
  fin_cases a <;> rfl

theorem ix2_eq (y : S2048x2.Idx) : y = ix2 (y 0) (y 1) := by
  funext a
  fin_cases a <;> rfl

/-- The unnormalised weights of the two picked experts. -/
theorem y106 (hl : ∀ s e, IsR (sco L s e)) (s) : ∃ μ : ℝ, ∀ r, (res_main_v106 L : FVec Ideal S2048x2 .f32) (ix2 s r)
    = ((Real.exp ((sco L s (pick L s r)).toReal - μ) : ℝ) : EReal) := by
  have hc := const_bot
  have hv := y_values L
  unfold res_main_v106
  generalize (constant S_ .f32 0xFF800000#32 : FVec Ideal S_ .f32) = c at hc ⊢
  generalize (res_main_values L : FVec Ideal S2048x2 .f32) = g at hv ⊢
  have hr : ∀ y, IsR (g y) := fun y => by
    obtain ⟨r, hr⟩ := hl (y 0) (pick L (y 0) (y 1))
    exact ⟨r, (congrArg g (ix2_eq y)).trans ((hv _ _).trans hr)⟩
  obtain ⟨μ, hμ⟩ := reduce_real g c reducesTo_S2048x2_S2048_d1 h_S_ (ix1 s) (ix2 s 0) (drop_self1 s 0) (hr _) (fun y => Or.inr (hr y)) (hc _)
  refine ⟨μ, fun r => ?_⟩
  refine (congrArg₂ (fun a b : EReal => Ideal.exp (a - b)) ((hv s r).trans (hl s _).eq) ((spread_row1 _ s r).trans ((max_spread1 c hc _ _).trans hμ))).trans ?_
  show Ideal.exp (((sco L s (pick L s r)).toReal : EReal) - (μ : EReal)) = _
  rw [← EReal.coe_sub, Ideal.exp_coe]

/-- The softmax of the two picked scores. -/
def gw : FVec Ideal S2048x2 .f32 :=
  Host.divf (res_main_v106 L) (broadcastInDim S2048x2 ![0, 1] bcast_S2048x1_S2048x2_0_1 (broadcastInDim S2048x1 ![0] bcast_S2048_S2048x1_0 (Host.reduceAdd (res_main_v106 L) (constant S_ .f32 0x00000000#32) reducesTo_S2048x2_S2048_d1 h_S_)))

theorem gw_read (s r) : @Eq EReal (gw L (ix2 s r)) (Ideal.div ((res_main_v106 L : FVec Ideal S2048x2 .f32) (ix2 s r)) (∑ x : Fin 2, (res_main_v106 L : S2048x2.Idx → EReal) (ix2 s x))) := by
  pointwise [gw]

/-- Of two exponentials, one's share of the sum. -/
theorem share (a b μ : ℝ) : Real.exp (a - μ) / (Real.exp (a - μ) + Real.exp (b - μ)) = (1 + Real.exp (b - a))⁻¹ := by
  have h : Real.exp (b - μ) = Real.exp (a - μ) * Real.exp (b - a) := by rw [← Real.exp_add]; congr 1; ring
  rw [h]
  have := Real.exp_pos (a - μ)
  have := Real.exp_pos (b - a)
  field_simp

theorem gw_div (a b : ℝ) (hb : 0 < b) : Ideal.div (a : EReal) (b : EReal) = ((a / b : ℝ) : EReal) := by
  rw [Ideal.div_coe hb.ne', ← EReal.coe_mul]
  congr 1
  ring

theorem gw_val (hl : ∀ s e, IsR (sco L s e)) (s r) : @Eq EReal (gw L (ix2 s r)) (gat (sco L s) (pick L s 0) (pick L s 1) (pick L s r)) := by
  obtain ⟨μ, hμ⟩ := y106 L hl s
  rw [gw_read, Fin.sum_univ_two, hμ, hμ, hμ, ← EReal.coe_add, gw_div _ _ (by positivity)]
  have hne : pick L s 1 ≠ pick L s 0 := (pick_top L s).2.1
  have hr : r = 0 ∨ r = 1 := by fin_cases r <;> simp
  unfold gat
  rcases hr with rfl | rfl
  · rw [if_pos rfl, share]
  · rw [if_neg hne, if_pos rfl]
    congr 1
    rw [← share _ _ μ]
    have h1 := Real.exp_pos ((sco L s (pick L s 0)).toReal - μ)
    have h2 := Real.exp_pos ((sco L s (pick L s 1)).toReal - μ)
    field_simp
    ring

/-- The index words of the scatter: the token and the expert. -/
def ixw : IVec S2048x2x2 32 :=
  concatenate S2048x2x2 2 [⟨S2048x2x1, (broadcastInDim S2048x2x1 ![0, 1] bcast_S2048x2_S2048x2x1_0_1 (broadcastInDim S2048x2 ![0, 1] bcast_S2048x1_S2048x2_0_1 (select (cmpi .slt (res_main_v113 L) (broadcastInDim S2048x1 ![] bcast_S_S2048x1 (constantI S_ 32 0#32))) (addi (res_main_v113 L) (broadcastInDim S2048x1 ![] bcast_S_S2048x1 (constantI S_ 32 2048#32))) (res_main_v113 L))))⟩, ⟨S2048x2x1, (broadcastInDim S2048x2x1 ![0, 1] bcast_S2048x2_S2048x2x1_0_1 (select (cmpi .slt (res_main_indices L) (broadcastInDim S2048x2 ![] bcast_S_S2048x2 (constantI S_ 32 0#32))) (addi (res_main_indices L) (broadcastInDim S2048x2 ![] bcast_S_S2048x2 (constantI S_ 32 8#32))) (res_main_indices L)))⟩] concatenates_S2048x2x1_S2048x2x1_S2048x2x2_d2

theorem y113 (s) : (res_main_v113 L : IVec S2048x1 32) (ix2 s 0) = BitVec.ofNat 32 s.val := by
  pointwise [res_main_v113]

theorem ixw_0 (a b) : ixw L (ix3 a b 0) = BitVec.ofNat 32 a.val := by
  have h := y113 L a
  unfold ixw
  generalize (res_main_v113 L : IVec S2048x1 32) = g at h ⊢
  generalize (res_main_indices L : IVec S2048x2 32) = g'
  pointwise
  rw [h]
  exact Routing.wrap_of_lt _ _ (by rw [BitVec.toNat_ofNat]; have := a.isLt; omega)

theorem ixw_1 (a b) : ixw L (ix3 a b 1) = BitVec.ofNat 32 (pick L a b).val := by
  have h := y_indices L a b
  unfold ixw
  generalize (res_main_v113 L : IVec S2048x1 32) = g
  generalize (res_main_indices L : IVec S2048x2 32) = g' at h ⊢
  pointwise
  rw [h]
  exact Routing.wrap_of_lt _ _ (by rw [BitVec.toNat_ofNat]; have := (pick L a b).isLt; omega)

/-- The reference's gates. -/
def gts : FVec Ideal S2048x8 .f32 :=
  Host.scatter scatter_S2048x8_S2048x2x2_S2048x2_n_01_01_2 (fun _ b => b) (broadcastInDim S2048x8 ![] bcast_S_S2048x8 (constant S_ .f32 0x00000000#32)) (ixw L) (gw L)

theorem toInt_small (n : ℕ) (h : n < 4096) : (BitVec.ofNat 32 n).toInt = n := by
  rw [BitVec.toInt_eq_toNat_of_lt (by rw [BitVec.toNat_ofNat]; omega), BitVec.toNat_ofNat]
  omega

theorem lands (a : Fin 2048) (b : Fin 2) (s : Fin 2048) (e : Fin 8) :
    scatter_S2048x8_S2048x2x2_S2048x2_n_01_01_2.resultIdx? (ix2 a b) (ixw L) = some (ix2 s e) ↔ a = s ∧ pick L a b = e := by
  refine (Routing.scatter_lands2 scatter_S2048x8_S2048x2x2_S2048x2_n_01_01_2 rfl rfl rfl (ixw L) a b s e).trans ?_
  have h0 := ixw_0 L a b
  have h1 := ixw_1 L a b
  generalize ixw L = w at h0 h1 ⊢
  refine (Iff.of_eq (congrArg₂ (fun p q : BitVec 32 => p.toInt = (s.val : ℤ) ∧ q.toInt = (e.val : ℤ)) h0 h1)).trans ?_
  show (BitVec.ofNat 32 a.val).toInt = (s.val : ℤ) ∧ (BitVec.ofNat 32 (pick L a b).val).toInt = (e.val : ℤ) ↔ _
  rw [toInt_small _ (by omega), toInt_small _ (by have := (pick L a b).isLt; omega)]
  constructor
  · rintro ⟨h, h'⟩
    exact ⟨Fin.ext (by exact_mod_cast h), Fin.ext (by exact_mod_cast h')⟩
  · rintro ⟨rfl, rfl⟩
    exact ⟨rfl, rfl⟩

/-- The scattered gates of a token are the softmax of its two greatest scores, zero elsewhere. -/
theorem gts_val (hl : ∀ s e, IsR (sco L s e)) (s e) : @Eq EReal (gts L (ix2 s e)) (gat (sco L s) (pick L s 0) (pick L s 1) e) := by
  unfold gts
  have hne : pick L s 1 ≠ pick L s 0 := (pick_top L s).2.1
  by_cases h : ∃ b, pick L s b = e
  · obtain ⟨b, rfl⟩ := h
    refine Routing.scatter_set_hit _ _ _ _ _ _ (fun k hk => ?_) (ix2 s b) ((lands L s b s _).2 ⟨rfl, rfl⟩)
    obtain ⟨a, b', rfl⟩ : ∃ (a : Fin 2048) (b : Fin 2), k = ix2 a b := ⟨k 0, k 1, ix2_eq k⟩
    obtain ⟨h1, h2⟩ := (lands L _ _ _ _).1 hk
    subst h1
    rw [← h2]
    exact gw_val L hl _ _
  · refine (Routing.scatter_set_miss _ _ _ _ _ (fun k hk => ?_)).trans ?_
    · rw [ix2_eq k] at hk
      obtain ⟨h1, h2⟩ := (lands L _ _ _ _).1 hk
      exact h ⟨_, h1 ▸ h2⟩
    · unfold gat
      rw [if_neg fun e' => h ⟨0, e'.symm⟩, if_neg fun e' => h ⟨1, e'.symm⟩]
      pointwise

end Cert.ReferenceIdeal.Val
-- ==== Proof.Ref4.lean ====
/- The experts of the reference, and its result at an entry. -/
module

public import proofs.«01_k».proof.Proof.Gen.ReferenceIdeal.Run
public import proofs.«01_k».proof.Proof.Ref3
public import Idealize.ShloMosaic.Lib.Pointwise
public import Idealize.ShloMosaic.Lib.IdealHost
public import Idealize.ShloMosaic.Lib.WordCmp

@[expose] public section
set_option maxRecDepth 16384
noncomputable section
namespace Cert.ReferenceIdeal.Val
open Cert.ReferenceIdeal Cert.ReferenceIdeal.Gen Cert.ReferenceIdeal.Value Idealize.ShloMosaic Idealize.ShloMosaic.TcCoe Idealize.SL.Sem Cert.Layer
variable (L : Valuation τ sig (Elt Ideal))

/-- The reference's result. -/
def refOut : FVec Ideal S1x2048x1024 .f32 :=
  addf (res_main_v84 L) (shapeCast _ (Host.dotGeneral dot_S2048x8_S2048x8x1024_S2048x1024_1_1_n_2_0_0 none (gts L) (transpose S2048x8x1024 [2, 0, 1] (Host.dotGeneral (φ₁ := .f32) (φ₂ := .f32) dot_S8x344x1024_S2048x8x344_S8x1024x2048_1_2_2_0_0_1 none (L (Proc.devRef .tc main_arg11) : FVec Ideal S8x344x1024 .f32) (mulf (mulf (res_main_v129 L) (Host.divf (broadcastInDim S2048x8x344 ![] bcast_S_S2048x8x344 (constant S_ .f32 0x3F800000#32)) (addf (broadcastInDim S2048x8x344 ![] bcast_S_S2048x8x344 (constant S_ .f32 0x3F800000#32)) (Host.exp (Host.negf (res_main_v129 L)))))) (Host.dotGeneral (φ₁ := .f32) (φ₂ := .f32) dot_S2048x1024_S8x1024x344_S2048x8x344_1_1_0_02_n_n none (res_main_v98 L : FVec Ideal S2048x1024 .f32) (L (Proc.devRef .tc main_arg10) : FVec Ideal S8x1024x344 .f32)))) transposes_S8x1024x2048_S2048x8x1024_2_0_1)) shapeCasts_S2048x1024_S1x2048x1024)

/-- The gate projection. -/
theorem y129 (H : RealArgs L) (s e f) : (res_main_v129 L : FVec Ideal S2048x8x344 .f32) (ix3 s e f)
    = ∑ k, xx (aX L) (aP L) (a1 L) (a2 L) (aQ L) (aK L) (aV L) (aO L) s k * aWg L e k f := by
  pointwise [res_main_v129]
  simp only [y98 H]
  rfl

/-- The scores are the specification's. -/
theorem sco_eq (H : RealArgs L) (s) : sco L s = ll (aX L) (aP L) (a1 L) (a2 L) (aQ L) (aK L) (aV L) (aO L) (aG L) s :=
  funext fun e => y99 H s e

theorem sco_real (H : RealArgs L) (s e) : IsR (sco L s e) := by
  rw [sco_eq L H]
  exact IsR.ll H.n2 H.G s e

theorem refOut_eq (H : RealArgs L) (s d) : refOut L (ix3 0 s d)
    = outv (aX L) (aP L) (a1 L) (a2 L) (aQ L) (aK L) (aV L) (aO L) (aG L) (aWg L) (aWu L) (aWd L) (pick L s 0) (pick L s 1) s d := by
  have h84 := y84 H s d
  have hg := gts_val L (sco_real L H) s
  have h129 := y129 L H s
  have h98 := y98 H s
  rw [sco_eq L H] at hg
  unfold refOut
  generalize (res_main_v84 L : FVec Ideal S1x2048x1024 .f32) = A at h84 ⊢
  generalize (gts L : FVec Ideal S2048x8 .f32) = B at hg ⊢
  generalize (res_main_v129 L : FVec Ideal S2048x8x344 .f32) = C at h129 ⊢
  generalize (res_main_v98 L : FVec Ideal S2048x1024 .f32) = D at h98 ⊢
  pointwise
  simp only [h84, hg, h129, h98]
  unfold outv moe
  refine congrArg (fun z : EReal => hh (aX L) (aP L) (a1 L) (aQ L) (aK L) (aV L) (aO L) s d + z) (Finset.sum_congr rfl fun e _ => congrArg (fun z : EReal => gat _ _ _ e * z) (Finset.sum_congr rfl fun f _ => ?_))
  exact mul_comm (G := EReal) _ _

end Cert.ReferenceIdeal.Val
-- ==== Proof.Pre.lean ====
/- The precondition read back: the five arguments it names hold real numbers. -/
module

public import proofs.«01_k».proof.Pre_finite
public import proofs.«01_k».proof.Proof.Spec
public import Idealize.ShloMosaic.Lib.ReduceAll
public import Idealize.ShloMosaic.Lib.Pointwise

@[expose] public section

noncomputable section
namespace Cert.Pre_finite.Val

open Cert.Pre_finite Idealize.ShloMosaic Cert.Layer

theorem ofBits_top : Ideal.ofBits FTy.f32 2139095040#32 = ⊤ := by
  simp [Ideal.ofBits, Ideal.ieee]

/-- An extended real of absolute value below infinity is a real. -/
theorem isR_of_lt {x : EReal} (h : max x (-x) < ⊤) : IsR x := by
  induction x using EReal.rec with
  | bot => simp at h
  | coe r => exact IsR.coe r
  | top => simp at h

/-- An array whose entries' absolute values are all below infinity holds reals. -/
theorem real_of_all {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32)))
      (constantI S_ 1 1#1) hr hu j = 1#1) (i : s.Idx) : IsR (a i) := by
  have : Subsingleton S_.Idx := ⟨fun x y => funext fun k => k.elim0⟩
  have h1 := Host.reduce_andi_all _ _ hr hu j h i
  have h2 : BitVec.ofBool (decide (max (a i : EReal) (-(a i : EReal)) < Ideal.ofBits FTy.f32 2139095040#32)) = 1#1 := h1
  rw [ofBits_top] at h2
  refine isR_of_lt ?_
  by_contra hn
  rw [decide_eq_false hn] at h2
  exact absurd h2 (by decide)

/-- The precondition holding, the norms' weights, the query and key projections and the router hold reals. -/
theorem reals [Facts] {a0 : FVec Ideal S1x2048x1024 .f32} {a1 : IVec S1x2048 32} {a2 a3 : FVec Ideal S1024 .f32}
    {a4 a5 a6 a7 : FVec Ideal S1024x1024 .f32} {a8 : FVec Ideal S1024x8 .f32} {a9 a10 : FVec Ideal S8x1024x344 .f32}
    {a11 : FVec Ideal S8x344x1024 .f32} (h : Cert.Pre_finite.fn (F := Ideal) a0 a1 a2 a3 a4 a5 a6 a7 a8 a9 a10 a11 = fun _ => 1#1) :
    (∀ i, IsR (a2 i)) ∧ (∀ i, IsR (a3 i)) ∧ (∀ i, IsR (a4 i)) ∧ (∀ i, IsR (a5 i)) ∧ ∀ i, IsR (a8 i) := by
  have h := congrFun h (fun k => k.elim0)
  unfold fn fn_part1 at h
  obtain ⟨h, e8⟩ := IntOp.andi_eq_one.1 h
  obtain ⟨h, e5⟩ := IntOp.andi_eq_one.1 h
  obtain ⟨h, e4⟩ := IntOp.andi_eq_one.1 h
  obtain ⟨e2, e3⟩ := IntOp.andi_eq_one.1 h
  clear h
  dsimp only at e2 e3 e4 e5 e8
  refine ⟨?_, ?_, ?_, ?_, ?_⟩
  · exact real_of_all a2 _ _ _ _ e2
  · exact real_of_all a3 _ _ _ _ e3
  · exact real_of_all a4 _ _ _ _ e4
  · exact real_of_all a5 _ _ _ _ e5
  · exact real_of_all a8 _ _ _ _ e8

end Cert.Pre_finite.Val
-- ==== Proof.Alg.lean ====
/- The two sides meet: from memories agreeing on the arguments the two result arrays are equal. -/
module

public import proofs.«01_k».proof.Defs
public import proofs.«01_k».proof.Proof.Out
public import proofs.«01_k».proof.Proof.KRun
public import proofs.«01_k».proof.Proof.Ref4
public import proofs.«01_k».proof.Proof.Pre
public import proofs.«01_k».proof.Proof.Gen.KernelIdeal
public import proofs.«01_k».proof.Proof.Gen.ReferenceIdeal
public import proofs.«01_k».proof.Proof.Gen.Pre_finite

@[expose] public section

set_option maxRecDepth 16384

noncomputable section
namespace Cert.Proof

open Idealize.ShloMosaic Idealize.SL.Sem Cert.Layer

section
variable (m : (ℓ : Loc Cert.KernelIdeal.nD Cert.KernelIdeal.τ Cert.KernelIdeal.sig) → Buf (Elt Ideal) ℓ)
  (g : Dev Cert.KernelIdeal.nD → PrngReg)
  (L : Valuation Cert.ReferenceIdeal.τ Cert.ReferenceIdeal.sig (Elt Ideal)) (c : Dev Cert.KernelIdeal.nD)

/-- The reference's arguments are the kernel's, entry by entry. -/
structure SameArgs : Prop where
  X : Cert.ReferenceIdeal.Val.aX L = Cert.KernelIdeal.Val.kX m c
  P : Cert.ReferenceIdeal.Val.aP L = Cert.KernelIdeal.Val.kP m c
  n1 : Cert.ReferenceIdeal.Val.a1 L = Cert.KernelIdeal.Val.k1 m c
  n2 : Cert.ReferenceIdeal.Val.a2 L = Cert.KernelIdeal.Val.k2 m c
  Q : Cert.ReferenceIdeal.Val.aQ L = Cert.KernelIdeal.Val.kQ m c
  K : Cert.ReferenceIdeal.Val.aK L = Cert.KernelIdeal.Val.kK m c
  V : Cert.ReferenceIdeal.Val.aV L = Cert.KernelIdeal.Val.kV m c
  O : Cert.ReferenceIdeal.Val.aO L = Cert.KernelIdeal.Val.kO m c
  G : Cert.ReferenceIdeal.Val.aG L = Cert.KernelIdeal.Val.kGt m c
  Wg : Cert.ReferenceIdeal.Val.aWg L = Cert.KernelIdeal.Val.kWg m c
  Wu : Cert.ReferenceIdeal.Val.aWu L = Cert.KernelIdeal.Val.kWu m c
  Wd : Cert.ReferenceIdeal.Val.aWd L = Cert.KernelIdeal.Val.kWd m c

variable {m L c}

/-- With real scores the reference's result is the kernel's, entry by entry. -/
theorem out_eq (S : SameArgs m L c) (H : Cert.KernelIdeal.Val.RealMem m c) (s : Fin 2048) (d : Fin 1024) :
    @Eq EReal (Cert.ReferenceIdeal.Val.refOut L (ix3 0 s d))
      ((Cert.KernelIdeal.Gen.W14 m g c (Proc.devRef .tc Cert.KernelIdeal.main_v47) : FVec Ideal Cert.KernelIdeal.S1x2048x1024 .f32) (ix3 0 s d)) := by
  have HR : Cert.ReferenceIdeal.Val.RealArgs L :=
    ⟨S.n1 ▸ H.n1, S.n2 ▸ H.n2, S.Q ▸ H.Q, S.K ▸ H.K, S.G ▸ H.G⟩
  have hT := Cert.ReferenceIdeal.Val.pick_top L s
  rw [Cert.ReferenceIdeal.Val.sco_eq L HR s, S.X, S.P, S.n1, S.n2, S.Q, S.K, S.V, S.O, S.G] at hT
  rw [Cert.ReferenceIdeal.Val.refOut_eq L HR s d, S.X, S.P, S.n1, S.n2, S.Q, S.K, S.V, S.O, S.G, S.Wg, S.Wu, S.Wd]
  exact (Cert.KernelIdeal.Val.w14_out m g c H s d hT).symm
end

/-- Under the precondition the arguments the scores are made of are real. -/
theorem real_mem [Cert.Pre_finite.Facts] {m : (ℓ : Loc Cert.KernelIdeal.nD Cert.KernelIdeal.τ Cert.KernelIdeal.sig) → Buf (Elt Ideal) ℓ}
    (h : Cert.Pre_KernelIdeal_finite m) (c : Dev Cert.KernelIdeal.nD) : Cert.KernelIdeal.Val.RealMem m c := by
  obtain ⟨h2, h3, h4, h5, h8⟩ := Cert.Pre_finite.Val.reals (h c)
  exact ⟨fun d => h2 (ix1 d), fun d => h3 (ix1 d), fun d e => h4 (ix2 d e), fun d e => h5 (ix2 d e), fun d e => h8 (ix2 d e)⟩

/-- The idealised kernel and the reference end with equal results, from finite norm, query, key and router weights. -/
theorem algebraic : Cert.algebraic_KernelIdeal_ReferenceIdeal_pre_finite := by
  intro m g m' g' hP hm
  refine ⟨fun c => Cert.KernelIdeal.Gen.W14 m g c (Proc.devRef .tc Cert.KernelIdeal.main_v47), ?k, ?r⟩
  case k => exact (θ_run Cert.KernelIdeal.defs _ _).mono (fun r h => h.1) (Cert.KernelIdeal.Val.run_out m g)
  case r =>
    refine (θ_run Cert.ReferenceIdeal.defs _ _).mono (fun r h c => ⟨(h c).1.trans ?e, (h c).2⟩)
      (Cert.ReferenceIdeal.Value.run (F := Ideal) m' g')
    obtain ⟨e0, e1, e2, e3, e4, e5, e6, e7, e8, e9, e10, e11⟩ := hm c
    have S : SameArgs m (StableHlo.launchContents m' c) c :=
      ⟨funext fun s => funext fun d => congrFun e0 (ix3 0 s d), funext fun s => congrFun e1 (ix2 0 s),
        funext fun d => congrFun e2 (ix1 d), funext fun d => congrFun e3 (ix1 d),
        funext fun d => funext fun e => congrFun e4 (ix2 d e), funext fun d => funext fun e => congrFun e5 (ix2 d e),
        funext fun d => funext fun e => congrFun e6 (ix2 d e), funext fun d => funext fun e => congrFun e7 (ix2 d e),
        funext fun d => funext fun e => congrFun e8 (ix2 d e),
        funext fun e => funext fun d => funext fun f => congrFun e9 (ix3 e d f),
        funext fun e => funext fun d => funext fun f => congrFun e10 (ix3 e d f),
        funext fun e => funext fun f => funext fun d => congrFun e11 (ix3 e f d)⟩
    have key : @Eq (FVec Ideal Cert.KernelIdeal.S1x2048x1024 .f32) (Cert.ReferenceIdeal.Val.refOut (StableHlo.launchContents m' c))
        (Cert.KernelIdeal.Gen.W14 m g c (Proc.devRef .tc Cert.KernelIdeal.main_v47)) := by
      funext j
      obtain ⟨a, s, d, rfl⟩ : ∃ (a : Fin 1) (s : Fin 2048) (d : Fin 1024), j = ix3 a s d := ⟨j 0, j 1, j 2, funext fun k => by fin_cases k <;> rfl⟩
      obtain rfl : a = 0 := Subsingleton.elim _ _
      exact out_eq g S (real_mem hP c) s d
    refine Eq.trans ?unfolded key
    unfold Cert.ReferenceIdeal.Val.refOut Cert.ReferenceIdeal.Val.gts Cert.ReferenceIdeal.Val.ixw Cert.ReferenceIdeal.Val.gw
    rfl

end Cert.Proof
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Alg
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed ends without fault, its arguments unchanged and every counter at zero. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So it does from finite arguments. -/
theorem frame_pi_pre : Cert.quiescent_KernelIdeal_pre_finite := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- So it does from finite arguments. -/
theorem frame_ri_pre : Cert.quiescent_ReferenceIdeal_pre_finite := fun m ρ _ => frame_ri m ρ trivial

/-- The two named constants of the idealized kernel are the values that its table gives them. -/
theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "mask" .f32 0xCE6E6B28#32 ⊥ rfl⟩

theorem claim : Cert.Claim :=
  ⟨Cert.Kernel.Gen.facts, Cert.KernelIdeal.Gen.facts, Cert.ReferenceIdeal.Gen.facts, Cert.Pre_finite.Gen.facts,
    frame_p, frame_pi, frame_pi_pre, frame_ri, frame_ri_pre, preserves, algebraic⟩

end Cert.Proof

end
